-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000x2 : Shape := ⟨2, ![20000, 2]⟩
abbrev S20000x1 : Shape := ⟨2, ![20000, 1]⟩
abbrev S20000 : Shape := ⟨1, ![20000]⟩
abbrev S12000 : Shape := ⟨1, ![12000]⟩
abbrev S_ : Shape := ⟨0, ![]⟩
abbrev S12032x4 : Shape := ⟨2, ![12032, 4]⟩
abbrev S12000x1 : Shape := ⟨2, ![12000, 1]⟩
abbrev S12000x4 : Shape := ⟨2, ![12000, 4]⟩
abbrev S1 : Shape := ⟨1, ![1]⟩
abbrev S4x12032 : Shape := ⟨2, ![4, 12032]⟩
abbrev S4x94x128 : Shape := ⟨3, ![4, 94, 128]⟩
abbrev S5x94x128 : Shape := ⟨3, ![5, 94, 128]⟩
abbrev S128x128 : Shape := ⟨2, ![128, 128]⟩
abbrev S1x94x128 : Shape := ⟨3, ![1, 94, 128]⟩
abbrev S94x128 : Shape := ⟨2, ![94, 128]⟩
abbrev S1x128 : Shape := ⟨2, ![1, 128]⟩
abbrev S128x1 : Shape := ⟨2, ![128, 1]⟩
abbrev S1x1x128 : Shape := ⟨3, ![1, 1, 128]⟩
abbrev S128x640 : Shape := ⟨2, ![128, 640]⟩
abbrev S640x128 : Shape := ⟨2, ![640, 128]⟩
abbrev S128 : Shape := ⟨1, ![128]⟩
abbrev S1x1x1 : Shape := ⟨3, ![1, 1, 1]⟩
abbrev S1x128x1 : Shape := ⟨3, ![1, 128, 1]⟩

abbrev nBuf : Space → Nat
  | .hbm => 43
  | .vmem => 6
  | .smem => 0
  | _ => 0

abbrev bufTy : (tb : Table) → Fin (tcTables nBuf tb) → BufTy
  | .hbm, ⟨0, _⟩ => ⟨S20000x4, .f32⟩
  | .hbm, ⟨1, _⟩ => ⟨S20000x4, .f32⟩
  | .hbm, ⟨2, _⟩ => ⟨S20000x2, .f32⟩
  | .hbm, ⟨3, _⟩ => ⟨S20000x1, .f32⟩
  | .hbm, ⟨4, _⟩ => ⟨S20000, .f32⟩
  | .hbm, ⟨5, _⟩ => ⟨S12000, .f32⟩
  | .hbm, ⟨6, _⟩ => ⟨S12000, .i32⟩
  | .hbm, ⟨7, _⟩ => ⟨S_, .f32⟩
  | .hbm, ⟨8, _⟩ => ⟨S12032x4, .f32⟩
  | .hbm, ⟨9, _⟩ => ⟨S_, .i32⟩
  | .hbm, ⟨10, _⟩ => ⟨S12000, .i32⟩
  | .hbm, ⟨11, _⟩ => ⟨S12000, .i1⟩
  | .hbm, ⟨12, _⟩ => ⟨S_, .i32⟩
  | .hbm, ⟨13, _⟩ => ⟨S12000, .i32⟩
  | .hbm, ⟨14, _⟩ => ⟨S12000, .i32⟩
  | .hbm, ⟨15, _⟩ => ⟨S12000, .i32⟩
  | .hbm, ⟨16, _⟩ => ⟨S12000x1, .i32⟩
  | .hbm, ⟨17, _⟩ => ⟨S12000x4, .f32⟩
  | .hbm, ⟨18, _⟩ => ⟨S_, .i32⟩
  | .hbm, ⟨19, _⟩ => ⟨S1, .i32⟩
  | .hbm, ⟨20, _⟩ => ⟨S12032x4, .f32⟩
  | .hbm, ⟨21, _⟩ => ⟨S_, .f32⟩
  | .hbm, ⟨22, _⟩ => ⟨S12032x4, .f32⟩
  | .hbm, ⟨23, _⟩ => ⟨S_, .i32⟩
  | .hbm, ⟨24, _⟩ => ⟨S12000, .i32⟩
  | .hbm, ⟨25, _⟩ => ⟨S12000, .i1⟩
  | .hbm, ⟨26, _⟩ => ⟨S_, .i32⟩
  | .hbm, ⟨27, _⟩ => ⟨S12000, .i32⟩
  | .hbm, ⟨28, _⟩ => ⟨S12000, .i32⟩
  | .hbm, ⟨29, _⟩ => ⟨S12000, .i32⟩
  | .hbm, ⟨30, _⟩ => ⟨S12000x1, .i32⟩
  | .hbm, ⟨31, _⟩ => ⟨S12000x4, .f32⟩
  | .hbm, ⟨32, _⟩ => ⟨S_, .i32⟩
  | .hbm, ⟨33, _⟩ => ⟨S1, .i32⟩
  | .hbm, ⟨34, _⟩ => ⟨S12032x4, .f32⟩
  | .hbm, ⟨35, _⟩ => ⟨S4x12032, .f32⟩
  | .hbm, ⟨36, _⟩ => ⟨S4x94x128, .f32⟩
  | .hbm, ⟨37, _⟩ => ⟨S4x12032, .f32⟩
  | .hbm, ⟨38, _⟩ => ⟨S4x94x128, .f32⟩
  | .hbm, ⟨39, _⟩ => ⟨S4x94x128, .f32⟩
  | .hbm, ⟨40, _⟩ => ⟨S4x12032, .f32⟩
  | .hbm, ⟨41, _⟩ => ⟨S12032x4, .f32⟩
  | .hbm, ⟨42, _⟩ => ⟨S12000x4, .f32⟩
  | .local _ .vmem, ⟨0, _⟩ => ⟨S4x94x128, .f32⟩
  | .local _ .vmem, ⟨1, _⟩ => ⟨S4x94x128, .f32⟩
  | .local _ .vmem, ⟨2, _⟩ => ⟨S4x94x128, .f32⟩
  | .local _ .vmem, ⟨3, _⟩ => ⟨S5x94x128, .f32⟩
  | .local _ .vmem, ⟨4, _⟩ => ⟨S5x94x128, .f32⟩
  | .local _ .vmem, ⟨5, _⟩ => ⟨S128x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_45 : BitVec 32 := 0#32
  let c94_i32 : BitVec 32 := 94#32
  let v83 : BitVec 32 := Scalar.addi c0_i32_45 c94_i32
  let c1_i32 : BitVec 32 := 1#32
  ⟨c0_i32_45, v83, c1_i32⟩
def k0_off1 (k0_t1 : Fin k0_t1_loop.trips) : Fin 3 → Nat :=
  let c0_49 : Index := 0#32
  let c0_i32_45 : BitVec 32 := 0#32
  let c1_i32 : BitVec 32 := 1#32
  let arg6 : BitVec 32 := Scf.iv c0_i32_45 c1_i32 k0_t1
  let v90 : Index := Scalar.indexCast arg6
  let c0_50 : Index := 0#32
  ![0, v90.toNat, 0]
def k0_off2 (k0_t1 : Fin k0_t1_loop.trips) : Fin 3 → Nat :=
  let c1_52 : Index := 1#32
  let c0_i32_45 : BitVec 32 := 0#32
  let c1_i32 : BitVec 32 := 1#32
  let arg6 : BitVec 32 := Scf.iv c0_i32_45 c1_i32 k0_t1
  let v95 : Index := Scalar.indexCast arg6
  let c0_53 : Index := 0#32
  ![1, v95.toNat, 0]
def k0_off3 (k0_t1 : Fin k0_t1_loop.trips) : Fin 3 → Nat :=
  let c2_55 : Index := 2#32
  let c0_i32_45 : BitVec 32 := 0#32
  let c1_i32 : BitVec 32 := 1#32
  let arg6 : BitVec 32 := Scf.iv c0_i32_45 c1_i32 k0_t1
  let v100 : Index := Scalar.indexCast arg6
  let c0_56 : Index := 0#32
  ![2, v100.toNat, 0]
def k0_off4 (k0_t1 : Fin k0_t1_loop.trips) : Fin 3 → Nat :=
  let c3_58 : Index := 3#32
  let c0_i32_45 : BitVec 32 := 0#32
  let c1_i32 : BitVec 32 := 1#32
  let arg6 : BitVec 32 := Scf.iv c0_i32_45 c1_i32 k0_t1
  let v105 : Index := Scalar.indexCast arg6
  let c0_59 : Index := 0#32
  ![3, v105.toNat, 0]
def k0_off5 (k0_t1 : Fin k0_t1_loop.trips) : Fin 3 → Nat :=
  let c0_48 : Index := 0#32
  let c0_i32_45 : BitVec 32 := 0#32
  let c1_i32 : BitVec 32 := 1#32
  let arg6 : BitVec 32 := Scf.iv c0_i32_45 c1_i32 k0_t1
  let v89 : Index := Scalar.indexCast arg6
  let c0_49 : Index := 0#32
  ![0, v89.toNat, 0]
def k0_off6 (k0_t1 : Fin k0_t1_loop.trips) : Fin 3 → Nat :=
  let c1_50 : Index := 1#32
  let c0_i32_45 : BitVec 32 := 0#32
  let c1_i32 : BitVec 32 := 1#32
  let arg6 : BitVec 32 := Scf.iv c0_i32_45 c1_i32 k0_t1
  let v92 : Index := Scalar.indexCast arg6
  let c0_51 : Index := 0#32
  ![1, v92.toNat, 0]
def k0_off7 (k0_t1 : Fin k0_t1_loop.trips) : Fin 3 → Nat :=
  let c2_52 : Index := 2#32
  let c0_i32_45 : BitVec 32 := 0#32
  let c1_i32 : BitVec 32 := 1#32
  let arg6 : BitVec 32 := Scf.iv c0_i32_45 c1_i32 k0_t1
  let v95 : Index := Scalar.indexCast arg6
  let c0_53 : Index := 0#32
  ![2, v95.toNat, 0]
def k0_off8 (k0_t1 : Fin k0_t1_loop.trips) : Fin 3 → Nat :=
  let c3_54 : Index := 3#32
  let c0_i32_45 : BitVec 32 := 0#32
  let c1_i32 : BitVec 32 := 1#32
  let arg6 : BitVec 32 := Scf.iv c0_i32_45 c1_i32 k0_t1
  let v98 : Index := Scalar.indexCast arg6
  let c0_55 : Index := 0#32
  ![3, v98.toNat, 0]
def k0_off9 (k0_t1 : Fin k0_t1_loop.trips) : Fin 3 → Nat :=
  let c4_56 : Index := 4#32
  let c0_i32_45 : BitVec 32 := 0#32
  let c1_i32 : BitVec 32 := 1#32
  let arg6 : BitVec 32 := Scf.iv c0_i32_45 c1_i32 k0_t1
  let v101 : Index := Scalar.indexCast arg6
  let c0_57 : Index := 0#32
  ![4, v101.toNat, 0]
@[reducible] def k0_t2_loop (k0_t1 : Fin k0_t1_loop.trips) : Scf.Loop 32 :=
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let c1_i32_62 : BitVec 32 := 1#32
  ⟨c0_i32_60, v126, c1_i32_62⟩
def k0_off10 (k0_t1 : Fin k0_t1_loop.trips) (k0_t2 : Fin (k0_t2_loop k0_t1).trips) : Fin 3 → Nat :=
  let c0_92 : Index := 0#32
  let c0_i32_60 : BitVec 32 := 0#32
  let c1_i32_62 : BitVec 32 := 1#32
  let arg8 : BitVec 32 := Scf.iv c0_i32_60 c1_i32_62 k0_t2
  let v212 : Index := Scalar.indexCast arg8
  let c0_93 : Index := 0#32
  ![0, v212.toNat, 0]
def k0_off11 (k0_t1 : Fin k0_t1_loop.trips) (k0_t2 : Fin (k0_t2_loop k0_t1).trips) : Fin 3 → Nat :=
  let c1_94 : Index := 1#32
  let c0_i32_60 : BitVec 32 := 0#32
  let c1_i32_62 : BitVec 32 := 1#32
  let arg8 : BitVec 32 := Scf.iv c0_i32_60 c1_i32_62 k0_t2
  let v215 : Index := Scalar.indexCast arg8
  let c0_95 : Index := 0#32
  ![1, v215.toNat, 0]
def k0_off12 (k0_t1 : Fin k0_t1_loop.trips) (k0_t2 : Fin (k0_t2_loop k0_t1).trips) : Fin 3 → Nat :=
  let c2_96 : Index := 2#32
  let c0_i32_60 : BitVec 32 := 0#32
  let c1_i32_62 : BitVec 32 := 1#32
  let arg8 : BitVec 32 := Scf.iv c0_i32_60 c1_i32_62 k0_t2
  let v218 : Index := Scalar.indexCast arg8
  let c0_97 : Index := 0#32
  ![2, v218.toNat, 0]
def k0_off13 (k0_t1 : Fin k0_t1_loop.trips) (k0_t2 : Fin (k0_t2_loop k0_t1).trips) : Fin 3 → Nat :=
  let c3_98 : Index := 3#32
  let c0_i32_60 : BitVec 32 := 0#32
  let c1_i32_62 : BitVec 32 := 1#32
  let arg8 : BitVec 32 := Scf.iv c0_i32_60 c1_i32_62 k0_t2
  let v221 : Index := Scalar.indexCast arg8
  let c0_99 : Index := 0#32
  ![3, v221.toNat, 0]
def k0_off14 (k0_t1 : Fin k0_t1_loop.trips) (k0_t2 : Fin (k0_t2_loop k0_t1).trips) : Fin 3 → Nat :=
  let c4_100 : Index := 4#32
  let c0_i32_60 : BitVec 32 := 0#32
  let c1_i32_62 : BitVec 32 := 1#32
  let arg8 : BitVec 32 := Scf.iv c0_i32_60 c1_i32_62 k0_t2
  let v224 : Index := Scalar.indexCast arg8
  let c0_101 : Index := 0#32
  ![4, v224.toNat, 0]
@[reducible] def k0_t3_loop (k0_t1 : Fin k0_t1_loop.trips) : Scf.Loop 32 :=
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let v123 : BitVec 32 := Scalar.addi c0_i32_60 v122
  let c1_i32_63 : BitVec 32 := 1#32
  ⟨v126, v123, c1_i32_63⟩
def k0_off15 (k0_t1 : Fin k0_t1_loop.trips) (k0_t3 : Fin (k0_t3_loop k0_t1).trips) : Fin 3 → Nat :=
  let c0_92 : Index := 0#32
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let c1_i32_63 : BitVec 32 := 1#32
  let arg8 : BitVec 32 := Scf.iv v126 c1_i32_63 k0_t3
  let v212 : Index := Scalar.indexCast arg8
  let c0_93 : Index := 0#32
  ![0, v212.toNat, 0]
def k0_off16 (k0_t1 : Fin k0_t1_loop.trips) (k0_t3 : Fin (k0_t3_loop k0_t1).trips) : Fin 3 → Nat :=
  let c1_94 : Index := 1#32
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let c1_i32_63 : BitVec 32 := 1#32
  let arg8 : BitVec 32 := Scf.iv v126 c1_i32_63 k0_t3
  let v215 : Index := Scalar.indexCast arg8
  let c0_95 : Index := 0#32
  ![1, v215.toNat, 0]
def k0_off17 (k0_t1 : Fin k0_t1_loop.trips) (k0_t3 : Fin (k0_t3_loop k0_t1).trips) : Fin 3 → Nat :=
  let c2_96 : Index := 2#32
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let c1_i32_63 : BitVec 32 := 1#32
  let arg8 : BitVec 32 := Scf.iv v126 c1_i32_63 k0_t3
  let v218 : Index := Scalar.indexCast arg8
  let c0_97 : Index := 0#32
  ![2, v218.toNat, 0]
def k0_off18 (k0_t1 : Fin k0_t1_loop.trips) (k0_t3 : Fin (k0_t3_loop k0_t1).trips) : Fin 3 → Nat :=
  let c3_98 : Index := 3#32
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let c1_i32_63 : BitVec 32 := 1#32
  let arg8 : BitVec 32 := Scf.iv v126 c1_i32_63 k0_t3
  let v221 : Index := Scalar.indexCast arg8
  let c0_99 : Index := 0#32
  ![3, v221.toNat, 0]
def k0_off19 (k0_t1 : Fin k0_t1_loop.trips) (k0_t3 : Fin (k0_t3_loop k0_t1).trips) : Fin 3 → Nat :=
  let c4_100 : Index := 4#32
  let c0_i32_60 : BitVec 32 := 0#32
  let c0_i32_45 : BitVec 32 := 0#32
  let c1_i32 : BitVec 32 := 1#32
  let arg6 : BitVec 32 := Scf.iv c0_i32_45 c1_i32 k0_t1
  let v122 : BitVec 32 := Scalar.subi arg6 c0_i32_60
  let c1_i32_61 : BitVec 32 := 1#32
  let v124 : BitVec 32 := Scalar.divsi v122 c1_i32_61
  let v125 : BitVec 32 := Scalar.muli v124 c1_i32_61
  let v126 : BitVec 32 := Scalar.addi c0_i32_60 v125
  let c1_i32_63 : BitVec 32 := 1#32
  let arg8 : BitVec 32 := Scf.iv v126 c1_i32_63 k0_t3
  let v224 : Index := Scalar.indexCast arg8
  let c0_101 : Index := 0#32
  ![4, v224.toNat, 0]
@[reducible] def k0_t4_loop : Scf.Loop 32 :=
  let c0_i32_70 : BitVec 32 := 0#32
  let c128_i32_71 : BitVec 32 := 128#32
  let v165 : BitVec 32 := Scalar.addi c0_i32_70 c128_i32_71
  let c1_i32_72 : BitVec 32 := 1#32
  ⟨c0_i32_70, v165, c1_i32_72⟩
def k0_off20 (k0_t4 : Fin k0_t4_loop.trips) : Fin 2 → Nat :=
  let c0_i32_70 : BitVec 32 := 0#32
  let c1_i32_72 : BitVec 32 := 1#32
  let arg8 : BitVec 32 := Scf.iv c0_i32_70 c1_i32_72 k0_t4
  let v220 : Index := Scalar.indexCast arg8
  let c0_92 : Index := 0#32
  ![v220.toNat, 0]
def k0_off21 (k0_t1 : Fin k0_t1_loop.trips) : Fin 3 → Nat :=
  let c0_84 : Index := 0#32
  let c0_i32_45 : BitVec 32 := 0#32
  let c1_i32 : BitVec 32 := 1#32
  let arg6 : BitVec 32 := Scf.iv c0_i32_45 c1_i32 k0_t1
  let v193 : Index := Scalar.indexCast arg6
  let c0_85 : Index := 0#32
  ![0, v193.toNat, 0]
def k0_off22 (k0_t1 : Fin k0_t1_loop.trips) : Fin 3 → Nat :=
  let c1_86 : Index := 1#32
  let c0_i32_45 : BitVec 32 := 0#32
  let c1_i32 : BitVec 32 := 1#32
  let arg6 : BitVec 32 := Scf.iv c0_i32_45 c1_i32 k0_t1
  let v198 : Index := Scalar.indexCast arg6
  let c0_87 : Index := 0#32
  ![1, v198.toNat, 0]
def k0_off23 (k0_t1 : Fin k0_t1_loop.trips) : Fin 3 → Nat :=
  let c2_88 : Index := 2#32
  let c0_i32_45 : BitVec 32 := 0#32
  let c1_i32 : BitVec 32 := 1#32
  let arg6 : BitVec 32 := Scf.iv c0_i32_45 c1_i32 k0_t1
  let v203 : Index := Scalar.indexCast arg6
  let c0_89 : Index := 0#32
  ![2, v203.toNat, 0]
def k0_off24 (k0_t1 : Fin k0_t1_loop.trips) : Fin 3 → Nat :=
  let c3_90 : Index := 3#32
  let c0_i32_45 : BitVec 32 := 0#32
  let c1_i32 : BitVec 32 := 1#32
  let arg6 : BitVec 32 := Scf.iv c0_i32_45 c1_i32 k0_t1
  let v208 : Index := Scalar.indexCast arg6
  let c0_91 : Index := 0#32
  ![3, v208.toNat, 0]
abbrev stage0_0 : Fin 1 → Memref sig .tc .vmem S4x94x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x94x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x94x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S20000x4 : Shape := ⟨2, ![20000, 4]⟩
abbrev S20000x2 : Shape := ⟨2, ![20000, 2]⟩
abbrev S20000x1 : Shape := ⟨2, ![20000, 1]⟩
abbrev S20000 : Shape := ⟨1, ![20000]⟩
abbrev S_ : Shape := ⟨0, ![]⟩
abbrev S12000 : Shape := ⟨1, ![12000]⟩
abbrev S12000x1 : Shape := ⟨2, ![12000, 1]⟩
abbrev S12000x4 : Shape := ⟨2, ![12000, 4]⟩
abbrev S1x4 : Shape := ⟨2, ![1, 4]⟩
abbrev S4 : Shape := ⟨1, ![4]⟩
abbrev S2 : Shape := ⟨1, ![2]⟩
abbrev S12000x2 : Shape := ⟨2, ![12000, 2]⟩
abbrev S1x2 : Shape := ⟨2, ![1, 2]⟩
abbrev S1 : Shape := ⟨1, ![1]⟩

abbrev nBuf : Space → Nat
  | .hbm => 222
  | .vmem => 0
  | .smem => 0
  | _ => 0

abbrev hbmTy0_0 (i : Nat) : BufTy := match i % 128 with
  | 0 => ⟨S20000x4, .f32⟩
  | 1 => ⟨S20000x4, .f32⟩
  | 2 => ⟨S20000x2, .f32⟩
  | 3 => ⟨S20000x1, .f32⟩
  | 4 => ⟨S20000, .f32⟩
  | 5 => ⟨S20000x1, .f32⟩
  | 6 => ⟨S20000, .f32⟩
  | 7 => ⟨S20000, .f32⟩
  | 8 => ⟨S_, .f32⟩
  | 9 => ⟨S20000, .f32⟩
  | 10 => ⟨S20000, .f32⟩
  | 11 => ⟨S20000x1, .f32⟩
  | 12 => ⟨S20000, .f32⟩
  | 13 => ⟨S20000x1, .f32⟩
  | 14 => ⟨S20000, .f32⟩
  | 15 => ⟨S20000, .f32⟩
  | 16 => ⟨S_, .f32⟩
  | 17 => ⟨S20000, .f32⟩
  | 18 => ⟨S20000, .f32⟩
  | 19 => ⟨S20000x1, .f32⟩
  | 20 => ⟨S20000, .f32⟩
  | 21 => ⟨S20000x1, .f32⟩
  | 22 => ⟨S20000, .f32⟩
  | 23 => ⟨S20000, .f32⟩
  | 24 => ⟨S20000x1, .f32⟩
  | 25 => ⟨S20000, .f32⟩
  | 26 => ⟨S20000x1, .f32⟩
  | 27 => ⟨S20000, .f32⟩
  | 28 => ⟨S20000, .f32⟩
  | 29 => ⟨S20000x1, .f32⟩
  | 30 => ⟨S20000, .f32⟩
  | 31 => ⟨S20000x1, .f32⟩
  | 32 => ⟨S20000, .f32⟩
  | 33 => ⟨S20000x1, .f32⟩
  | 34 => ⟨S20000, .f32⟩
  | 35 => ⟨S20000x1, .f32⟩
  | 36 => ⟨S20000, .f32⟩
  | 37 => ⟨S20000, .f32⟩
  | 38 => ⟨S_, .f32⟩
  | 39 => ⟨S20000, .f32⟩
  | 40 => ⟨S20000, .f32⟩
  | 41 => ⟨S20000, .f32⟩
  | 42 => ⟨S_, .f32⟩
  | 43 => ⟨S20000, .f32⟩
  | 44 => ⟨S20000, .f32⟩
  | 45 => ⟨S20000, .f32⟩
  | 46 => ⟨S20000, .f32⟩
  | 47 => ⟨S20000, .f32⟩
  | 48 => ⟨S_, .f32⟩
  | 49 => ⟨S_, .f32⟩
  | 50 => ⟨S_, .f32⟩
  | 51 => ⟨S20000, .f32⟩
  | 52 => ⟨S20000, .f32⟩
  | 53 => ⟨S_, .f32⟩
  | 54 => ⟨S20000, .f32⟩
  | 55 => ⟨S20000, .f32⟩
  | 56 => ⟨S20000, .f32⟩
  | 57 => ⟨S20000, .f32⟩
  | 58 => ⟨S20000, .f32⟩
  | 59 => ⟨S_, .f32⟩
  | 60 => ⟨S_, .f32⟩
  | 61 => ⟨S_, .f32⟩
  | 62 => ⟨S20000, .f32⟩
  | 63 => ⟨S20000, .f32⟩
  | 64 => ⟨S_, .f32⟩
  | 65 => ⟨S20000, .f32⟩
  | 66 => ⟨S20000, .f32⟩
  | 67 => ⟨S20000, .f32⟩
  | 68 => ⟨S20000, .f32⟩
  | 69 => ⟨S20000, .f32⟩
  | 70 => ⟨S_, .f32⟩
  | 71 => ⟨S_, .f32⟩
  | 72 => ⟨S_, .f32⟩
  | 73 => ⟨S20000, .f32⟩
  | 74 => ⟨S20000, .f32⟩
  | 75 => ⟨S_, .f32⟩
  | 76 => ⟨S20000, .f32⟩
  | 77 => ⟨S20000, .f32⟩
  | 78 => ⟨S20000, .f32⟩
  | 79 => ⟨S20000, .f32⟩
  | 80 => ⟨S20000, .f32⟩
  | 81 => ⟨S_, .f32⟩
  | 82 => ⟨S_, .f32⟩
  | 83 => ⟨S_, .f32⟩
  | 84 => ⟨S20000, .f32⟩
  | 85 => ⟨S20000, .f32⟩
  | 86 => ⟨S_, .f32⟩
  | 87 => ⟨S20000, .f32⟩
  | 88 => ⟨S20000, .f32⟩
  | 89 => ⟨S20000x1, .f32⟩
  | 90 => ⟨S20000x1, .f32⟩
  | 91 => ⟨S20000x1, .f32⟩
  | 92 => ⟨S20000x1, .f32⟩
  | 93 => ⟨S20000x4, .f32⟩
  | 94 => ⟨S20000x1, .f32⟩
  | 95 => ⟨S20000, .f32⟩
  | 96 => ⟨S12000, .f32⟩
  | 97 => ⟨S12000, .i32⟩
  | 98 => ⟨S_, .i32⟩
  | 99 => ⟨S12000, .i32⟩
  | 100 => ⟨S12000, .i1⟩
  | 101 => ⟨S_, .i32⟩
  | 102 => ⟨S12000, .i32⟩
  | 103 => ⟨S12000, .i32⟩
  | 104 => ⟨S12000, .i32⟩
  | 105 => ⟨S12000x1, .i32⟩
  | 106 => ⟨S12000x4, .f32⟩
  | 107 => ⟨S12000x1, .f32⟩
  | 108 => ⟨S12000, .f32⟩
  | 109 => ⟨S12000x1, .f32⟩
  | 110 => ⟨S12000, .f32⟩
  | 111 => ⟨S12000, .f32⟩
  | 112 => ⟨S12000x1, .f32⟩
  | 113 => ⟨S12000, .f32⟩
  | 114 => ⟨S12000x1, .f32⟩
  | 115 => ⟨S12000, .f32⟩
  | 116 => ⟨S12000, .f32⟩
  | 117 => ⟨S12000, .f32⟩
  | 118 => ⟨S12000, .i32⟩
  | 119 => ⟨S_, .i1⟩
  | 120 => ⟨S12000, .i1⟩
  | 121 => ⟨S_, .i32⟩
  | 122 => ⟨S_, .i32⟩
  | 123 => ⟨S12000x4, .f32⟩
  | 124 => ⟨S12000, .f32⟩
  | 125 => ⟨S12000, .i32⟩
  | 126 => ⟨S_, .i32⟩
  | 127 => ⟨S_, .i32⟩
  | _ => ⟨S20000x4, .f32⟩

abbrev hbmTy0_1 (i : Nat) : BufTy := match i % 128 with
  | 0 => ⟨S12000, .i1⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S1x4, .f32⟩
  | 20 => ⟨S4, .f32⟩
  | 21 => ⟨S2, .f32⟩
  | 22 => ⟨S12000x2, .f32⟩
  | 23 => ⟨S1x2, .f32⟩
  | 24 => ⟨S12000x2, .f32⟩
  | 25 => ⟨S12000x2, .f32⟩
  | 26 => ⟨S2, .f32⟩
  | 27 => ⟨S12000x2, .f32⟩
  | 28 => ⟨S1x2, .f32⟩
  | 29 => ⟨S12000x2, .f32⟩
  | 30 => ⟨S12000x2, .f32⟩
  | 31 => ⟨S12000x2, .i1⟩
  | 32 => ⟨S_, .i1⟩
  | 33 => ⟨S12000, .i1⟩
  | 34 => ⟨S12000x1, .f32⟩
  | 35 => ⟨S12000, .f32⟩
  | 36 => ⟨S12000x1, .f32⟩
  | 37 => ⟨S12000, .f32⟩
  | 38 => ⟨S12000, .f32⟩
  | 39 => ⟨S12000x1, .f32⟩
  | 40 => ⟨S12000, .f32⟩
  | 41 => ⟨S12000x1, .f32⟩
  | 42 => ⟨S12000, .f32⟩
  | 43 => ⟨S12000, .f32⟩
  | 44 => ⟨S12000, .f32⟩
  | 45 => ⟨S_, .f32⟩
  | 46 => ⟨S_, .f32⟩
  | 47 => ⟨S12000, .f32⟩
  | 48 => ⟨S12000, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S1, .f32⟩
  | 56 => ⟨S_, .f32⟩
  | 57 => ⟨S12000, .f32⟩
  | 58 => ⟨S12000, .f32⟩
  | 59 => ⟨S12000, .f32⟩
  | 60 => ⟨S12000, .f32⟩
  | 61 => ⟨S_, .i32⟩
  | 62 => ⟨S12000, .i32⟩
  | 63 => ⟨S12000, .i1⟩
  | 64 => ⟨S12000, .i1⟩
  | 65 => ⟨S_, .f32⟩
  | 66 => ⟨S12000, .f32⟩
  | 67 => ⟨S12000, .i1⟩
  | 68 => ⟨S12000, .i1⟩
  | 69 => ⟨S_, .i1⟩
  | 70 => ⟨S_, .i1⟩
  | 71 => ⟨S_, .i1⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1, .i32⟩
  | 79 => ⟨S12000, .i1⟩
  | 80 => ⟨S_, .i32⟩
  | 81 => ⟨S_, .i32⟩
  | 82 => ⟨S12000, .i32⟩
  | 83 => ⟨S_, .i32⟩
  | 84 => ⟨S_, .i32⟩
  | 85 => ⟨S12000, .i32⟩
  | 86 => ⟨S_, .i32⟩
  | 87 => ⟨S12000, .i32⟩
  | 88 => ⟨S12000, .i1⟩
  | 89 => ⟨S12000, .i1⟩
  | 90 => ⟨S12000x1, .i1⟩
  | 91 => ⟨S12000x1, .f32⟩
  | 92 => ⟨S12000x4, .f32⟩
  | 93 => ⟨S12000x4, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_cst_10 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_values : Ref sig .tc := ⟨.hbm, 96, rfl⟩
abbrev main_indices : Ref sig .tc := ⟨.hbm, 97, rfl⟩
abbrev main_c : Ref sig .tc := ⟨.hbm, 98, rfl⟩
abbrev main_v61 : Ref sig .tc := ⟨.hbm, 99, rfl⟩
abbrev main_v62 : Ref sig .tc := ⟨.hbm, 100, rfl⟩
abbrev main_c_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_12 : Ref sig .tc := ⟨.hbm, 119, rfl⟩
abbrev main_v80 : Ref sig .tc := ⟨.hbm, 120, rfl⟩
abbrev main_c_13 : Ref sig .tc := ⟨.hbm, 121, rfl⟩
abbrev main_c_14 : Ref sig .tc := ⟨.hbm, 122, rfl⟩
abbrev main_v81_0 : Ref sig .tc := ⟨.hbm, 123, rfl⟩
abbrev main_v81_1 : Ref sig .tc := ⟨.hbm, 124, rfl⟩
abbrev main_v81_2 : Ref sig .tc := ⟨.hbm, 125, rfl⟩
abbrev main_v81_3 : Ref sig .tc := ⟨.hbm, 126, rfl⟩
abbrev main_v81_4 : Ref sig .tc := ⟨.hbm, 127, rfl⟩
abbrev main_v81_5 : Ref sig .tc := ⟨.hbm, 128, rfl⟩
abbrev main_while0c_c_21 : Ref sig .tc := ⟨.hbm, 129, rfl⟩
abbrev main_while0c_v91 : Ref sig .tc := ⟨.hbm, 130, rfl⟩
abbrev main_while0b_c_21 : Ref sig .tc := ⟨.hbm, 131, rfl⟩
abbrev main_while0b_v91 : Ref sig .tc := ⟨.hbm, 132, rfl⟩
abbrev main_while0b_v92 : Ref sig .tc := ⟨.hbm, 133, rfl⟩
abbrev main_while0b_c_22 : Ref sig .tc := ⟨.hbm, 134, rfl⟩
abbrev main_while0b_v93 : Ref sig .tc := ⟨.hbm, 135, rfl⟩
abbrev main_while0b_c_23 : Ref sig .tc := ⟨.hbm, 136, rfl⟩
abbrev main_while0b_v94 : Ref sig .tc := ⟨.hbm, 137, rfl⟩
abbrev main_while0b_v95 : Ref sig .tc := ⟨.hbm, 138, rfl⟩
abbrev main_while0b_c_24 : Ref sig .tc := ⟨.hbm, 139, rfl⟩
abbrev main_while0b_c_25 : Ref sig .tc := ⟨.hbm, 140, rfl⟩
abbrev main_while0b_v96 : Ref sig .tc := ⟨.hbm, 141, rfl⟩
abbrev main_while0b_c_26 : Ref sig .tc := ⟨.hbm, 142, rfl⟩
abbrev main_while0b_c_27 : Ref sig .tc := ⟨.hbm, 143, rfl⟩
abbrev main_while0b_v97 : Ref sig .tc := ⟨.hbm, 144, rfl⟩
abbrev main_while0b_c_28 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_v107 : Ref sig .tc := ⟨.hbm, 155, rfl⟩
abbrev main_while0b_v108 : Ref sig .tc := ⟨.hbm, 156, rfl⟩
abbrev main_while0b_v109 : Ref sig .tc := ⟨.hbm, 157, rfl⟩
abbrev main_while0b_v110 : Ref sig .tc := ⟨.hbm, 158, rfl⟩
abbrev main_while0b_v111 : Ref sig .tc := ⟨.hbm, 159, rfl⟩
abbrev main_while0b_c_29 : Ref sig .tc := ⟨.hbm, 160, rfl⟩
abbrev main_while0b_v112 : Ref sig .tc := ⟨.hbm, 161, rfl⟩
abbrev main_while0b_v113 : Ref sig .tc := ⟨.hbm, 162, rfl⟩
abbrev main_while0b_v114 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_v120 : Ref sig .tc := ⟨.hbm, 169, rfl⟩
abbrev main_while0b_v121 : Ref sig .tc := ⟨.hbm, 170, rfl⟩
abbrev main_while0b_v122 : Ref sig .tc := ⟨.hbm, 171, rfl⟩
abbrev main_while0b_v123 : Ref sig .tc := ⟨.hbm, 172, rfl⟩
abbrev main_while0b_cst_30 : Ref sig .tc := ⟨.hbm, 173, rfl⟩
abbrev main_while0b_call4_v0 : Ref sig .tc := ⟨.hbm, 174, rfl⟩
abbrev main_while0b_call4_v1 : Ref sig .tc := ⟨.hbm, 175, rfl⟩
abbrev main_while0b_v124 : Ref sig .tc := ⟨.hbm, 176, rfl⟩
abbrev main_while0b_c_31 : Ref sig .tc := ⟨.hbm, 177, rfl⟩
abbrev main_while0b_v125 : Ref sig .tc := ⟨.hbm, 178, rfl⟩
abbrev main_while0b_v126 : Ref sig .tc := ⟨.hbm, 179, rfl⟩
abbrev main_while0b_c_32 : Ref sig .tc := ⟨.hbm, 180, rfl⟩
abbrev main_while0b_v127 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_cst_33 : Ref sig .tc := ⟨.hbm, 193, rfl⟩
abbrev main_while0b_v139 : Ref sig .tc := ⟨.hbm, 194, rfl⟩
abbrev main_while0b_v140 : Ref sig .tc := ⟨.hbm, 195, rfl⟩
abbrev main_while0b_v141 : Ref sig .tc := ⟨.hbm, 196, rfl⟩
abbrev main_while0b_c_34 : Ref sig .tc := ⟨.hbm, 197, rfl⟩
abbrev main_while0b_v142 : Ref sig .tc := ⟨.hbm, 198, rfl⟩
abbrev main_while0b_v143 : Ref sig .tc := ⟨.hbm, 199, rfl⟩
abbrev main_while0b_c_35 : Ref sig .tc := ⟨.hbm, 200, rfl⟩
abbrev main_while0b_v144 : Ref sig .tc := ⟨.hbm, 201, rfl⟩
abbrev main_while0b_c_36 : Ref sig .tc := ⟨.hbm, 202, rfl⟩
abbrev main_while0b_v145 : Ref sig .tc := ⟨.hbm, 203, rfl⟩
abbrev main_while0b_v146 : Ref sig .tc := ⟨.hbm, 204, rfl⟩
abbrev main_while0b_v147 : Ref sig .tc := ⟨.hbm, 205, rfl⟩
abbrev main_while0b_v148 : Ref sig .tc := ⟨.hbm, 206, rfl⟩
abbrev main_while0b_v149 : Ref sig .tc := ⟨.hbm, 207, rfl⟩
abbrev main_while0b_c_37 : Ref sig .tc := ⟨.hbm, 208, rfl⟩
abbrev main_while0b_v150 : Ref sig .tc := ⟨.hbm, 209, rfl⟩
abbrev main_v82 : Ref sig .tc := ⟨.hbm, 210, rfl⟩
abbrev main_call5_call0_c : Ref sig .tc := ⟨.hbm, 211, rfl⟩
abbrev main_call5_call0_v0 : Ref sig .tc := ⟨.hbm, 212, rfl⟩
abbrev main_v83 : Ref sig .tc := ⟨.hbm, 213, rfl⟩
abbrev main_c_15 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_v87 : Ref sig .tc := ⟨.hbm, 218, rfl⟩
abbrev main_v88 : Ref sig .tc := ⟨.hbm, 219, rfl⟩
abbrev main_v89 : Ref sig .tc := ⟨.hbm, 220, rfl⟩
abbrev main_v90 : Ref sig .tc := ⟨.hbm, 221, rfl⟩

abbrev nD : Nat := 1
abbrev τ : Topo := Topo.v7x

variable {F : FTy → Type} [FloatOps F]

abbrev main_while0_count : Scf.Loop 32 := ⟨0#32, 12000#32, 1#32⟩
-- ==== Proof.PI.Rows.lean ====
module
public import proofs.«01_k».proof.Proof.Gen.KernelIdeal.Loops
public import Idealize.ShloMosaic.Lib.WritesUnit
public import Idealize.ShloMosaic.Lib.Pointwise
@[expose] public section
set_option maxRecDepth 16384
noncomputable section

/-!
  # The kernel's sweep as a recursion over rows

  The kernel lays the boxes out as 94 rows of 128 lanes and goes through the rows in order. Here one row's work, and
  the state between rows, are written as plain functions of the rows' boxes.
-/

namespace Cert.Proof.PI
open Cert.KernelIdeal Cert.KernelIdeal.Gen
open Idealize.ShloMosaic Idealize.ShloMosaic.TcCoe
variable {F : FTy → Type} [FloatOps F]

/-- One row of 128 lanes of one slab. -/
abbrev Row (F : FTy → Type) := Vec F S1x1x128 .f32

/-- The five slabs' rows (four coordinates and the area) at one row number. -/
abbrev Rows (F : FTy → Type) := Fin 5 → Row F

/-- Row `k` of slab `ch` of an array of `n` slabs. -/
def rowOf {n : ℕ} (X : Vec F ⟨3, ![n, 94, 128]⟩ .f32) (ch : Fin n) (k : Fin 94) : Row F :=
  fun y => X (ix3 ch k (y 2))

/-- The rows of a five-slab array, by row number (past the last row, zeros). -/
def rowsOf (X : Vec F S5x94x128 .f32) (k : ℕ) : Rows F := fun ch => if h : k < 94 then rowOf X ch ⟨k, h⟩ else k0_pay4

/-- A row of the boxes by its number. -/
theorem rowsOf_lt (X : Vec F S5x94x128 .f32) (j : Fin 94) (ch : Fin 5) : rowOf X ch j = rowsOf X j.val ch :=
  by unfold rowsOf; rw [dif_pos j.isLt]

/-- Row `i` of a square. -/
def rowM (M : Vec F S128x128 .f32) (i : Fin 128) : Vec F S1x128 .f32 := fun y => M (ix2 i (y 1))

/-- The suppression column of a row of boxes `b` after the first `j` kept rows `D`. -/
def supOf (b : Rows F) (D : ℕ → Rows F) : ℕ → FVec F S128x1 .f32
  | 0 => k0_pay19
  | j + 1 => k0_pay20 k0_pay3 (b 0) (b 1) (b 2) (b 3) (b 4) (supOf b D j) (D j 0) (D j 1) (D j 2) (D j 3) (D j 4)

/-- The overlap square of a row of boxes with itself. -/
def overlapOf (b : Rows F) : FVec F S128x128 .f32 :=
  k0_pay24 (k0_pay10 (b 2)) (k0_pay11 (b 3)) (k0_pay12 (b 4))
    (k0_pay16 k0_pay3 (b 0) (b 1) (b 2) (b 3) (b 4)) (k0_pay17 k0_pay3 (b 0) (b 1) (b 2) (b 3) (b 4))
    (k0_pay18 k0_pay3 (b 0) (b 1) (b 2) (b 3) (b 4))
    (k0_pay22 k0_pay3 (b 0) (b 1) (b 2) (b 3) (b 4)) (k0_pay23 k0_pay3 (b 0) (b 1) (b 2) (b 3) (b 4))

/-- One lane of the sweep within a row: the keep mask, the mask cut off at the allowed number, and the count. -/
def laneStep (v76 : IVec S1x128 32) (v77 : IVec S128x1 32) (w : BitVec 32) (sup : FVec F S128x1 .f32)
    (i : Fin k0_t4_loop.trips) (p : FVec F S1x128 .f32 × FVec F S1x128 .f32 × BitVec 32)
    (v : Vec F S1x128 .f32) : FVec F S1x128 .f32 × FVec F S1x128 .f32 × BitVec 32 :=
  (k0_pay29 v76 v77 w sup i p.1 v, k0_pay30 v76 v77 w sup i p.1 p.2.1 p.2.2 v,
    Scalar.addi p.2.2 (Scalar.fptosi 32 (k0_pay28 v76 v77 w sup i p.1 v)))

/-- The inner loop runs over the lanes. -/
theorem lanes_le : k0_t4_loop.trips = 128 := by decide

/-- The outer loop runs over the rows. -/
theorem rows_eq : k0_t1_loop.trips = 94 := by decide

/-- The sweep's state within a row before lane `i`. -/
def keepOf (v76 : IVec S1x128 32) (v77 : IVec S128x1 32) (w : BitVec 32) (sup : FVec F S128x1 .f32)
    (M : FVec F S128x128 .f32) (a : BitVec 32) : ℕ → FVec F S1x128 .f32 × FVec F S1x128 .f32 × BitVec 32
  | 0 => (k0_pay25, k0_pay26, a)
  | i + 1 =>
    if h : i < k0_t4_loop.trips then
      laneStep v76 v77 w sup ⟨i, h⟩ (keepOf v76 v77 w sup M a i) (rowM M ⟨i, lanes_le ▸ h⟩)
    else keepOf v76 v77 w sup M a i

/-- The row number as the kernel's loop counts it. -/
abbrev rowWord (k : ℕ) : BitVec 32 := Scf.iv k0_t1_loop.lb k0_t1_loop.st k

/-- What row `k`'s sweep leaves from the count `a`, the boxes `b` and the kept rows `D`. -/
def sweep (v76 : IVec S1x128 32) (v77 : IVec S128x1 32) (b : Rows F) (D : ℕ → Rows F) (k : ℕ) (a : BitVec 32) :
    FVec F S1x128 .f32 × FVec F S1x128 .f32 × BitVec 32 :=
  keepOf v76 v77 (rowWord k) (supOf b D k) (overlapOf b) a 128

/-- The rows a sweep stores for the rows after it: the boxes under the keep mask. -/
def keptRows (b : Rows F) (m : FVec F S1x128 .f32) : Rows F :=
  ![k0_pay31 (k0_pay8 (b 0)) m, k0_pay33 (k0_pay32 (k0_pay9 (b 1)) m), k0_pay34 (k0_pay10 (b 2)) m,
    k0_pay35 (k0_pay11 (b 3)) m, k0_pay36 (k0_pay12 (b 4)) m]

/-- The rows a sweep puts out: the boxes under the mask cut off at the allowed number. -/
def outRows (b : Rows F) (m : FVec F S1x128 .f32) : Fin 4 → Row F :=
  ![k0_pay37 (k0_pay8 (b 0)) m, k0_pay38 (k0_pay9 (b 1)) m, k0_pay39 (k0_pay10 (b 2)) m, k0_pay40 (k0_pay11 (b 3)) m]

/-- The zero rows put out once enough boxes are kept. -/
def zeroRows : Fin 4 → Row F := ![k0_pay4, k0_pay5, k0_pay6, k0_pay7]

/-- Enough boxes are kept: the kernel's test on the count. -/
abbrev Full (a : BitVec 32) : Prop :=
  Scalar.cmpi .ne (Scalar.extui (Scalar.cmpi .sge a 2000#32) : BitVec 32) 0#32 = 1#1

open Classical in
/-- The state before row `k`: the count and the kept rows. -/
def st (v76 : IVec S1x128 32) (v77 : IVec S128x1 32) (b : ℕ → Rows F) : ℕ → BitVec 32 × (ℕ → Rows F)
  | 0 => (0#32, fun _ _ => k0_pay4)
  | k + 1 =>
    if Full (st v76 v77 b k).1 then st v76 v77 b k
    else
      ((sweep v76 v77 (b k) (st v76 v77 b k).2 k (st v76 v77 b k).1).2.2,
        Function.update (st v76 v77 b k).2 k
          (keptRows (b k) (sweep v76 v77 (b k) (st v76 v77 b k).2 k (st v76 v77 b k).1).1))

open Classical in
/-- The rows put out at row `k`. -/
def out (v76 : IVec S1x128 32) (v77 : IVec S128x1 32) (b : ℕ → Rows F) (k : ℕ) : Fin 4 → Row F :=
  if Full (st v76 v77 b k).1 then zeroRows
  else outRows (b k) (sweep v76 v77 (b k) (st v76 v77 b k).2 k (st v76 v77 b k).1).2.1

/-! ## Rows of a buffer read and written -/

section Buffers
variable {n : ℕ} (v : View sig .tc .vmem ⟨3, ![n, 94, 128]⟩ .f32) (f : v.ty.Contents (Elt F))

/-- A load of a row reads that row. -/
theorem load_row {off : Fin 3 → ℕ} (ch : Fin n) (k : Fin 94) (h : off = ![ch.val, k.val, 0])
    (inb : ∀ a, off a + S1x1x128.size a ≤ (⟨3, ![n, 94, 128]⟩ : Shape).size a) :
    v.readAt (Elt F) (Rect.unit (s := ⟨3, ![n, 94, 128]⟩) off S1x1x128.size inb).toLoadRect f
      = rowOf (v.read (Elt F) f) ch k := by
  subst h
  funext y
  refine congrArg (v.read (Elt F) f) (funext fun a => Fin.ext ?_)
  have h0 := (y 0).isLt
  have h1 := (y 1).isLt
  fin_cases a
  · show ch.val + 1 * (y 0).val = ch.val
    have : (y 0).val < 1 := h0
    omega
  · show k.val + 1 * (y 1).val = k.val
    have : (y 1).val < 1 := h1
    omega
  · show 0 + 1 * (y 2).val = (y 2).val
    omega

/-- A row just stored reads what was stored. -/
theorem row_hit {off : Fin 3 → ℕ} (ch : Fin n) (k : Fin 94) (h : off = ![ch.val, k.val, 0])
    (inb : ∀ a, off a + S1x1x128.size a ≤ (⟨3, ![n, 94, 128]⟩ : Shape).size a) (w : Row F)
    (L : List (View.Piece (Elt F) ⟨3, ![n, 94, 128]⟩ .f32)) :
    rowOf (v.read (Elt F) (v.writes (Elt F) f
      ((⟨Rect.unit (s := ⟨3, ![n, 94, 128]⟩) off S1x1x128.size inb, w⟩ : View.Piece (Elt F) ⟨3, ![n, 94, 128]⟩ .f32) :: L))) ch k
      = w := by
  funext y
  refine View.read_writes_cons_unit_of_mem v f inb w L _ y h fun a => ?_
  have h0 : (y 0).val < 1 := (y 0).isLt
  have h1 : (y 1).val < 1 := (y 1).isLt
  fin_cases a
  · show ch.val = ch.val + (y 0).val
    omega
  · show k.val = k.val + (y 1).val
    omega
  · show (y 2).val = 0 + (y 2).val
    omega

/-- A store of one row leaves every other row. -/
theorem row_miss {off : Fin 3 → ℕ} (ch ch' : Fin n) (k k' : Fin 94) (h : off = ![ch'.val, k'.val, 0])
    (hne : ch ≠ ch' ∨ k ≠ k')
    (inb : ∀ a, off a + S1x1x128.size a ≤ (⟨3, ![n, 94, 128]⟩ : Shape).size a) (w : Row F)
    (L : List (View.Piece (Elt F) ⟨3, ![n, 94, 128]⟩ .f32)) :
    rowOf (v.read (Elt F) (v.writes (Elt F) f
      ((⟨Rect.unit (s := ⟨3, ![n, 94, 128]⟩) off S1x1x128.size inb, w⟩ : View.Piece (Elt F) ⟨3, ![n, 94, 128]⟩ .f32) :: L))) ch k
      = rowOf (v.read (Elt F) (v.writes (Elt F) f L)) ch k := by
  funext y
  rcases hne with hne | hne
  · refine View.read_writes_cons_unit_of_not_mem v f inb w L _ h 0 ?_
    show ch.val < ch'.val ∨ ch'.val + 1 ≤ ch.val
    have := fun e => hne (Fin.ext e)
    omega
  · refine View.read_writes_cons_unit_of_not_mem v f inb w L _ h 1 ?_
    show k.val < k'.val ∨ k'.val + 1 ≤ k.val
    have := fun e => hne (Fin.ext e)
    omega

end Buffers

end Cert.Proof.PI
end
-- ==== Proof.PI.Trip.lean ====
module
public import proofs.«01_k».proof.Proof.PI.Rows
@[expose] public section
set_option maxRecDepth 16384
noncomputable section

/-!
  # One row of the sweep, as the program runs it

  The two inner loops' results are the recursions of `Rows`; a row's run then keeps the relation between the buffers
  and the state before the row.
-/

namespace Cert.Proof.PI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

/-- The first inner loop of row `k` runs once per row before it. -/
theorem trips_t2 : ∀ k : Fin k0_t1_loop.trips, (k0_t2_loop k).trips = k.val := by decide +kernel

/-- The second inner loop has nothing left to do. -/
theorem trips_t3 : ∀ k : Fin k0_t1_loop.trips, (k0_t3_loop k).trips = 0 := by decide +kernel

section
variable (c : Dev nD) (arg0 : Memref sig .tc .vmem S4x94x128 .f32) (harg0 : arg0.IsWhole) (arg1 : Memref sig .tc .vmem S4x94x128 .f32) (harg1 : arg1.IsWhole) (arg2 : Memref sig .tc .vmem S4x94x128 .f32) (harg2 : arg2.IsWhole) (arg3 : Memref sig .tc .vmem S5x94x128 .f32) (harg3 : arg3.IsWhole) (arg4 : Memref sig .tc .vmem S5x94x128 .f32) (harg4 : arg4.IsWhole) (arg5 : Memref sig .tc .vmem S128x128 .f32) (harg5 : arg5.IsWhole)
  (v76 : IVec S1x128 32) (v77 : IVec S128x1 32)

/-- The first inner loop's carried column is the suppression column, when the rows of the kept buffer it reads are the
kept rows. -/
theorem st_t2_eq (k : Fin k0_t1_loop.trips) (w : BitVec 32) (b : Rows F) (D : ℕ → Rows F)
    (X4 : BufTy.Contents (Elt F) arg4.view.ty)
    (hD : ∀ (j : Fin 94), j.val < k.val → ∀ ch : Fin 5, rowOf (arg4.view.read (Elt F) X4) ch j = D j.val ch)
    (j : ℕ) (hj : j ≤ k.val) :
    st_k0_t2 (F := F) Variants.none c none arg0 harg0 arg1 harg1 arg2 harg2 arg3 harg3 arg4 harg4 arg5 harg5 k0_pay3 k w
      (b 0) (b 1) (b 2) (b 3) (b 4) X4 k0_pay19 j = supOf b D j := by
  induction j with
  | zero => rfl
  | succ j ih =>
    have hk : k.val < 94 := lt_of_lt_of_eq k.isLt rows_eq
    have hjt : j < (k0_t2_loop k).trips := by rw [trips_t2]; omega
    have e := st_k0_t2_succ (F := F) Variants.none c none arg0 harg0 arg1 harg1 arg2 harg2 arg3 harg3 arg4 harg4 arg5 harg5 k0_pay3 k w
      (b 0) (b 1) (b 2) (b 3) (b 4) X4 k0_pay19 ⟨j, hjt⟩
    refine e.trans ?_
    rw [show st_k0_t2 (F := F) Variants.none c none arg0 harg0 arg1 harg1 arg2 harg2 arg3 harg3 arg4 harg4 arg5 harg5 k0_pay3 k w
      (b 0) (b 1) (b 2) (b 3) (b 4) X4 k0_pay19 (⟨j, hjt⟩ : Fin (k0_t2_loop k).trips).val = supOf b D j from ih (by omega)]
    unfold tripR_k0_t2 trip_k0_t2
    have hj94 : j < 94 := by omega
    have r := fun (ch : Fin 5) {off : Fin 3 → ℕ} (h : off = ![ch.val, j, 0]) inb =>
      (load_row (F := F) arg4.view X4 (off := off) ch ⟨j, hj94⟩ h inb).trans (hD ⟨j, hj94⟩ (by show j < k.val; omega) ch)
    show k0_pay20 _ _ _ _ _ _ _ _ _ _ _ _ = k0_pay20 _ _ _ _ _ _ _ _ _ _ _ _
    congr 1
    · exact r 0 (k0_off10_eq k ⟨j, hjt⟩) _
    · exact r 1 (k0_off11_eq k ⟨j, hjt⟩) _
    · exact r 2 (k0_off12_eq k ⟨j, hjt⟩) _
    · exact r 3 (k0_off13_eq k ⟨j, hjt⟩) _
    · exact r 4 (k0_off14_eq k ⟨j, hjt⟩) _

/-- The lanes' loop carries the sweep's state, when its buffer holds the square `M`. -/
theorem st_t4_eq (k : Fin k0_t1_loop.trips) (a w : BitVec 32) (v91 v94 v97 v100 v103 : FVec F S1x128 .f32)
    (v118 v119 v120 : FVec F S128x128 .f32) (sup : FVec F S128x1 .f32) (v130 v132 : FVec F S128x128 .f32)
    (X5 : BufTy.Contents (Elt F) arg5.view.ty) (M : FVec F S128x128 .f32) (hM : arg5.view.read (Elt F) X5 = M)
    (i : ℕ) (hi : i ≤ 128) :
    st_k0_t4 (F := F) Variants.none c none arg0 harg0 arg1 harg1 arg2 harg2 arg3 harg3 arg4 harg4 arg5 harg5 v76 v77 k a w
      v91 v94 v97 v100 v103 v118 v119 v120 sup v130 v132 X5 (k0_pay25, k0_pay26, a) i = keepOf v76 v77 w sup M a i := by
  induction i with
  | zero => rfl
  | succ i ih =>
    have hit : i < k0_t4_loop.trips := by rw [lanes_le]; omega
    have e := st_k0_t4_succ (F := F) Variants.none c none arg0 harg0 arg1 harg1 arg2 harg2 arg3 harg3 arg4 harg4 arg5 harg5 v76 v77 k a w
      v91 v94 v97 v100 v103 v118 v119 v120 sup v130 v132 X5 (k0_pay25, k0_pay26, a) ⟨i, hit⟩
    refine e.trans ?_
    rw [show st_k0_t4 (F := F) Variants.none c none arg0 harg0 arg1 harg1 arg2 harg2 arg3 harg3 arg4 harg4 arg5 harg5 v76 v77 k a w
      v91 v94 v97 v100 v103 v118 v119 v120 sup v130 v132 X5 (k0_pay25, k0_pay26, a) (⟨i, hit⟩ : Fin k0_t4_loop.trips).val
        = keepOf v76 v77 w sup M a i from ih (by omega)]
    unfold tripR_k0_t4 trip_k0_t4
    rw [keepOf, dif_pos hit]
    have r : arg5.view.readAt (Elt F) (Rect.unit (s := S128x128) (k0_off20 ⟨i, hit⟩) S1x128.size (k0_off20_inb ⟨i, hit⟩)).toLoadRect X5
        = rowM M ⟨i, lanes_le ▸ hit⟩ := by
      rw [← hM]
      funext y
      have h0 : (y 0).val < 1 := (y 0).isLt
      refine congrArg (arg5.view.read (Elt F) X5) (funext fun d => Fin.ext ?_)
      have hoff := congrFun (k0_off20_eq ⟨i, hit⟩)
      fin_cases d
      · refine (congrArg (· + 1 * (y 0).val) (hoff 0)).trans ?_
        show i + 1 * (y 0).val = i
        omega
      · refine (congrArg (· + 1 * (y 1).val) (hoff 1)).trans ?_
        show 0 + 1 * (y 1).val = (y 1).val
        omega
    rw [← r]
    rfl

/-- What holds of the output's and the kept rows' buffers before row `k`. -/
structure Rel (b : ℕ → Rows F) (k : ℕ) (a : BitVec 32) (f2 : BufTy.Contents (Elt F) arg2.view.ty)
    (f4 : BufTy.Contents (Elt F) arg4.view.ty) : Prop where
  count : a = (st v76 v77 b k).1
  kept : Full a ∨ ∀ j : Fin 94, j.val < k → ∀ ch : Fin 5, rowOf (arg4.view.read (Elt F) f4) ch j = (st v76 v77 b k).2 j.val ch
  outs : ∀ j : Fin 94, j.val < k → ∀ ch : Fin 4, rowOf (arg2.view.read (Elt F) f2) ch j = out v76 v77 b j.val ch

/-- Before the first row there is nothing to hold but the count. -/
theorem rel_of (b : ℕ → Rows F) (k : ℕ) (a : BitVec 32) (f2 : BufTy.Contents (Elt F) arg2.view.ty)
    (f4 : BufTy.Contents (Elt F) arg4.view.ty) (h0 : k = 0 → a = 0#32) (h : k ≠ 0 → Rel arg2 arg4 v76 v77 b k a f2 f4) :
    Rel arg2 arg4 v76 v77 b k a f2 f4 := by
  rcases Nat.eq_zero_or_pos k with hk | hk
  · subst hk
    exact ⟨h0 rfl, .inr fun j hj => absurd hj (Nat.not_lt_zero _), fun j hj => absurd hj (Nat.not_lt_zero _)⟩
  · exact h (by omega)

/-- What the row loop holds before row `k`. -/
abbrev rowInv (b : ℕ → Rows F) (X3 : BufTy.Contents (Elt F) arg3.view.ty) (k : ℕ) (a : BitVec 32) : sProp 𝕄 :=
  iprop(∃ f2 f4 f5, (arg2.view.loc (c : Thread nD τ) ↦[arg2.view.set]{fullShare} f2) ∗ (arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5) ∗ ⌜k = 0 → a = 0#32⌝ ∗ ⌜k ≠ 0 → Rel arg2 arg4 v76 v77 b k a f2 f4⌝)

/-- A square stored whole reads what was stored. -/
theorem read_square (w : FVec F S128x128 .f32) (f : BufTy.Contents (Elt F) arg5.view.ty) :
    arg5.view.read (Elt F) (arg5.view.writes (Elt F) f
      [⟨Rect.unit (s := S128x128) ![0, 0] S128x128.size inb_S128x128_S128x128_0_0, w⟩]) = w := by
  funext y
  refine View.read_writes_cons_unit_of_mem arg5.view f _ w [] y y rfl fun a => ?_
  fin_cases a
  · show (y 0).val = 0 + (y 0).val
    omega
  · show (y 1).val = 0 + (y 1).val
    omega

/-- The relation after a row's nine stores. -/
theorem rel_keep (b : ℕ → Rows F) (k : Fin k0_t1_loop.trips) (a : BitVec 32) (ha : ¬ Full a)
    (f2 : BufTy.Contents (Elt F) arg2.view.ty) (f4 : BufTy.Contents (Elt F) arg4.view.ty)
    (hR : Rel arg2 arg4 v76 v77 b k.val a f2 f4)
    (m : FVec F S1x128 .f32 × FVec F S1x128 .f32 × BitVec 32)
    (hm : m = sweep v76 v77 (b k.val) (st v76 v77 b k.val).2 k.val a) :
    Rel arg2 arg4 v76 v77 b (k.val + 1) m.2.2
      (arg2.view.writes (Elt F) f2
        [⟨Rect.unit (s := S4x94x128) (k0_off24 k) S1x1x128.size (k0_off24_inb k), k0_pay40 (k0_pay11 (b k.val 3)) m.2.1⟩,
         ⟨Rect.unit (s := S4x94x128) (k0_off23 k) S1x1x128.size (k0_off23_inb k), k0_pay39 (k0_pay10 (b k.val 2)) m.2.1⟩,
         ⟨Rect.unit (s := S4x94x128) (k0_off22 k) S1x1x128.size (k0_off22_inb k), k0_pay38 (k0_pay9 (b k.val 1)) m.2.1⟩,
         ⟨Rect.unit (s := S4x94x128) (k0_off21 k) S1x1x128.size (k0_off21_inb k), k0_pay37 (k0_pay8 (b k.val 0)) m.2.1⟩])
      (arg4.view.writes (Elt F) f4
        [⟨Rect.unit (s := S5x94x128) (k0_off9 k) S1x1x128.size (k0_off9_inb k), k0_pay36 (k0_pay12 (b k.val 4)) m.1⟩,
         ⟨Rect.unit (s := S5x94x128) (k0_off8 k) S1x1x128.size (k0_off8_inb k), k0_pay35 (k0_pay11 (b k.val 3)) m.1⟩,
         ⟨Rect.unit (s := S5x94x128) (k0_off7 k) S1x1x128.size (k0_off7_inb k), k0_pay34 (k0_pay10 (b k.val 2)) m.1⟩,
         ⟨Rect.unit (s := S5x94x128) (k0_off6 k) S1x1x128.size (k0_off6_inb k), k0_pay33 (k0_pay32 (k0_pay9 (b k.val 1)) m.1)⟩,
         ⟨Rect.unit (s := S5x94x128) (k0_off5 k) S1x1x128.size (k0_off5_inb k), k0_pay31 (k0_pay8 (b k.val 0)) m.1⟩]) := by
  have hk : k.val < 94 := lt_of_lt_of_eq k.isLt rows_eq
  obtain ⟨hc, hkept, houts⟩ := hR
  subst hc
  have hst : st v76 v77 b (k.val + 1) = (m.2.2, Function.update (st v76 v77 b k.val).2 k.val (keptRows (b k.val) m.1)) := by
    rw [st, if_neg ha, hm]
  have hout : out v76 v77 b k.val = outRows (b k.val) m.2.1 := by rw [out, if_neg ha, hm]
  refine ⟨by rw [hst], .inr fun j hj ch => ?_, fun j hj ch => ?_⟩
  · rw [hst]
    by_cases hjk : j.val = k.val
    · obtain rfl : j = ⟨k.val, hk⟩ := Fin.ext hjk
      show _ = Function.update (st v76 v77 b k.val).2 k.val (keptRows (b k.val) m.1) k.val ch
      rw [Function.update_self]
      fin_cases ch
      · rw [row_miss _ _ _ 4 _ ⟨k.val, hk⟩ (k0_off9_eq k) (.inl (by decide)), row_miss _ _ _ 3 _ ⟨k.val, hk⟩ (k0_off8_eq k) (.inl (by decide)),
          row_miss _ _ _ 2 _ ⟨k.val, hk⟩ (k0_off7_eq k) (.inl (by decide)), row_miss _ _ _ 1 _ ⟨k.val, hk⟩ (k0_off6_eq k) (.inl (by decide)),
          row_hit _ _ _ _ (k0_off5_eq k)]
        rfl
      · rw [row_miss _ _ _ 4 _ ⟨k.val, hk⟩ (k0_off9_eq k) (.inl (by decide)), row_miss _ _ _ 3 _ ⟨k.val, hk⟩ (k0_off8_eq k) (.inl (by decide)),
          row_miss _ _ _ 2 _ ⟨k.val, hk⟩ (k0_off7_eq k) (.inl (by decide)), row_hit _ _ _ _ (k0_off6_eq k)]
        rfl
      · rw [row_miss _ _ _ 4 _ ⟨k.val, hk⟩ (k0_off9_eq k) (.inl (by decide)), row_miss _ _ _ 3 _ ⟨k.val, hk⟩ (k0_off8_eq k) (.inl (by decide)),
          row_hit _ _ _ _ (k0_off7_eq k)]
        rfl
      · rw [row_miss _ _ _ 4 _ ⟨k.val, hk⟩ (k0_off9_eq k) (.inl (by decide)), row_hit _ _ _ _ (k0_off8_eq k)]
        rfl
      · rw [row_hit _ _ _ _ (k0_off9_eq k)]
        rfl
    · have hne : j ≠ ⟨k.val, hk⟩ := fun e => hjk (congrArg Fin.val e)
      show _ = Function.update (st v76 v77 b k.val).2 k.val (keptRows (b k.val) m.1) j.val ch
      rw [Function.update_of_ne hjk, row_miss _ _ _ 4 _ ⟨k.val, hk⟩ (k0_off9_eq k) (.inr hne), row_miss _ _ _ 3 _ ⟨k.val, hk⟩ (k0_off8_eq k) (.inr hne),
        row_miss _ _ _ 2 _ ⟨k.val, hk⟩ (k0_off7_eq k) (.inr hne), row_miss _ _ _ 1 _ ⟨k.val, hk⟩ (k0_off6_eq k) (.inr hne),
        row_miss _ _ _ 0 _ ⟨k.val, hk⟩ (k0_off5_eq k) (.inr hne)]
      exact hkept.resolve_left ha j (by omega) ch
  · by_cases hjk : j.val = k.val
    · obtain rfl : j = ⟨k.val, hk⟩ := Fin.ext hjk
      show _ = out v76 v77 b k.val ch
      rw [hout]
      fin_cases ch
      · rw [row_miss _ _ _ 3 _ ⟨k.val, hk⟩ (k0_off24_eq k) (.inl (by decide)),
          row_miss _ _ _ 2 _ ⟨k.val, hk⟩ (k0_off23_eq k) (.inl (by decide)), row_miss _ _ _ 1 _ ⟨k.val, hk⟩ (k0_off22_eq k) (.inl (by decide)),
          row_hit _ _ _ _ (k0_off21_eq k)]
        rfl
      · rw [row_miss _ _ _ 3 _ ⟨k.val, hk⟩ (k0_off24_eq k) (.inl (by decide)),
          row_miss _ _ _ 2 _ ⟨k.val, hk⟩ (k0_off23_eq k) (.inl (by decide)), row_hit _ _ _ _ (k0_off22_eq k)]
        rfl
      · rw [row_miss _ _ _ 3 _ ⟨k.val, hk⟩ (k0_off24_eq k) (.inl (by decide)), row_hit _ _ _ _ (k0_off23_eq k)]
        rfl
      · rw [row_hit _ _ _ _ (k0_off24_eq k)]
        rfl
    · have hne : j ≠ ⟨k.val, hk⟩ := fun e => hjk (congrArg Fin.val e)
      rw [row_miss _ _ _ 3 _ ⟨k.val, hk⟩ (k0_off24_eq k) (.inr hne),
        row_miss _ _ _ 2 _ ⟨k.val, hk⟩ (k0_off23_eq k) (.inr hne), row_miss _ _ _ 1 _ ⟨k.val, hk⟩ (k0_off22_eq k) (.inr hne),
        row_miss _ _ _ 0 _ ⟨k.val, hk⟩ (k0_off21_eq k) (.inr hne)]
      exact houts j (by omega) ch

/-- The relation after a skipped row's four stores. -/
theorem rel_skip (b : ℕ → Rows F) (k : Fin k0_t1_loop.trips) (a : BitVec 32) (ha : Full a)
    (f2 : BufTy.Contents (Elt F) arg2.view.ty) (f4 : BufTy.Contents (Elt F) arg4.view.ty)
    (hR : Rel arg2 arg4 v76 v77 b k.val a f2 f4) :
    Rel arg2 arg4 v76 v77 b (k.val + 1) a
      (arg2.view.writes (Elt F) f2
        [⟨Rect.unit (s := S4x94x128) (k0_off4 k) S1x1x128.size (k0_off4_inb k), k0_pay7⟩,
         ⟨Rect.unit (s := S4x94x128) (k0_off3 k) S1x1x128.size (k0_off3_inb k), k0_pay6⟩,
         ⟨Rect.unit (s := S4x94x128) (k0_off2 k) S1x1x128.size (k0_off2_inb k), k0_pay5⟩,
         ⟨Rect.unit (s := S4x94x128) (k0_off1 k) S1x1x128.size (k0_off1_inb k), k0_pay4⟩]) f4 := by
  have hk : k.val < 94 := lt_of_lt_of_eq k.isLt rows_eq
  obtain ⟨hc, hkept, houts⟩ := hR
  subst hc
  have hst : st v76 v77 b (k.val + 1) = st v76 v77 b k.val := by rw [st, if_pos ha]
  have hout : out v76 v77 b k.val = zeroRows := by rw [out, if_pos ha]
  refine ⟨by rw [hst], .inl ha, fun j hj ch => ?_⟩
  by_cases hjk : j.val = k.val
  · obtain rfl : j = ⟨k.val, hk⟩ := Fin.ext hjk
    show _ = out v76 v77 b k.val ch
    rw [hout]
    fin_cases ch
    · rw [row_miss _ _ _ 3 _ ⟨k.val, hk⟩ (k0_off4_eq k) (.inl (by decide)),
        row_miss _ _ _ 2 _ ⟨k.val, hk⟩ (k0_off3_eq k) (.inl (by decide)), row_miss _ _ _ 1 _ ⟨k.val, hk⟩ (k0_off2_eq k) (.inl (by decide)),
        row_hit _ _ _ _ (k0_off1_eq k)]
      rfl
    · rw [row_miss _ _ _ 3 _ ⟨k.val, hk⟩ (k0_off4_eq k) (.inl (by decide)),
        row_miss _ _ _ 2 _ ⟨k.val, hk⟩ (k0_off3_eq k) (.inl (by decide)), row_hit _ _ _ _ (k0_off2_eq k)]
      rfl
    · rw [row_miss _ _ _ 3 _ ⟨k.val, hk⟩ (k0_off4_eq k) (.inl (by decide)), row_hit _ _ _ _ (k0_off3_eq k)]
      rfl
    · rw [row_hit _ _ _ _ (k0_off4_eq k)]
      rfl
  · have hne : j ≠ ⟨k.val, hk⟩ := fun e => hjk (congrArg Fin.val e)
    rw [row_miss _ _ _ 3 _ ⟨k.val, hk⟩ (k0_off4_eq k) (.inr hne),
      row_miss _ _ _ 2 _ ⟨k.val, hk⟩ (k0_off3_eq k) (.inr hne), row_miss _ _ _ 1 _ ⟨k.val, hk⟩ (k0_off2_eq k) (.inr hne),
      row_miss _ _ _ 0 _ ⟨k.val, hk⟩ (k0_off1_eq k) (.inr hne)]
    exact houts j (by omega) ch

set_option maxHeartbeats 2000000 in
/-- A row swept. -/
theorem trip_keep (b : ℕ → Rows F) (X3 : BufTy.Contents (Elt F) arg3.view.ty)
    (hB : ∀ (j : Fin 94) (ch : Fin 5), rowOf (arg3.view.read (Elt F) X3) ch j = b j.val ch)
    (k : Fin k0_t1_loop.trips) (a : BitVec 32) (ha : ¬ Full a) :
    rowInv (F := F) c arg2 arg3 arg4 arg5 v76 v77 b X3 k.val a
    ⊢ wp frame (wpE (defs₀ (F := F)) Variants.none (c : Thread nD τ) none) Set.univ
        (k0_t1_body (F := F) arg0 harg0 arg1 harg1 arg2 harg2 arg3 harg3 arg4 harg4 arg5 harg5 v76 v77 k a)
        (fun y => rowInv (F := F) c arg2 arg3 arg4 arg5 v76 v77 b X3 (k.val + 1) y) := by
  have hk : k.val < 94 := lt_of_lt_of_eq k.isLt rows_eq
  unfold k0_t1_body
  iintro ⟨%f2, %f4, %f5, H2, H3, H4, H5, %h0, %h⟩
  have hR := rel_of arg2 arg4 v76 v77 b k.val a f2 f4 h0 h
  sl_exec_parts
  sl_step
  iexists _
  iexists _
  iexists _
  isplitl [H2]
  · iexact H2
  isplitl [H3]
  · iexact H3
  isplitl [H4]
  · iexact H4
  isplitl [H5]
  · iexact H5
  isplitr
  · ipureintro; exact fun e => absurd e (Nat.succ_ne_zero _)
  ipureintro
  refine fun _ => ?_
  have l0 : View.readAt (Elt F) arg3.view (Rect.unit (s := S5x94x128) (k0_off5 k) S1x1x128.size (k0_off5_inb k)).toLoadRect X3 = b k.val 0 :=
    (load_row arg3.view X3 0 ⟨k.val, hk⟩ (k0_off5_eq k) _).trans (hB _ _)
  have l1 : View.readAt (Elt F) arg3.view (Rect.unit (s := S5x94x128) (k0_off6 k) S1x1x128.size (k0_off6_inb k)).toLoadRect X3 = b k.val 1 :=
    (load_row arg3.view X3 1 ⟨k.val, hk⟩ (k0_off6_eq k) _).trans (hB _ _)
  have l2 : View.readAt (Elt F) arg3.view (Rect.unit (s := S5x94x128) (k0_off7 k) S1x1x128.size (k0_off7_inb k)).toLoadRect X3 = b k.val 2 :=
    (load_row arg3.view X3 2 ⟨k.val, hk⟩ (k0_off7_eq k) _).trans (hB _ _)
  have l3 : View.readAt (Elt F) arg3.view (Rect.unit (s := S5x94x128) (k0_off8 k) S1x1x128.size (k0_off8_inb k)).toLoadRect X3 = b k.val 3 :=
    (load_row arg3.view X3 3 ⟨k.val, hk⟩ (k0_off8_eq k) _).trans (hB _ _)
  have l4 : View.readAt (Elt F) arg3.view (Rect.unit (s := S5x94x128) (k0_off9 k) S1x1x128.size (k0_off9_inb k)).toLoadRect X3 = b k.val 4 :=
    (load_row arg3.view X3 4 ⟨k.val, hk⟩ (k0_off9_eq k) _).trans (hB _ _)
  have n2 : Scf.trips (k0_t2_loop k).lb (k0_t2_loop k).ub (k0_t2_loop k).st = k.val := trips_t2 k
  have n3 : Scf.trips (k0_t3_loop k).lb (k0_t3_loop k).ub (k0_t3_loop k).st = 0 := trips_t3 k
  have n4 : Scf.trips k0_t4_loop.lb k0_t4_loop.ub k0_t4_loop.st = 128 := lanes_le
  unfold trip_keep.sl.r_15 trip_keep.sl.r_14 trip_keep.sl.r_13 trip_keep.sl.r_12 trip_keep.sl.r_11
    trip_keep.sl.H5_1 trip_keep.sl.r_10 trip_keep.sl.r_9 trip_keep.sl.r_8 trip_keep.sl.r_7 trip_keep.sl.r_6
    trip_keep.sl.r_5 trip_keep.sl.r_4 trip_keep.sl.r_3 trip_keep.sl.r_2 trip_keep.sl.r_1 trip_keep.sl.r trip_keep.sl.arg6
  rw [l0, l1, l2, l3, l4, n2, n3, n4, st_k0_t3_zero,
    st_t2_eq c arg0 harg0 arg1 harg1 arg2 harg2 arg3 harg3 arg4 harg4 arg5 harg5 k _ (b k.val) _ f4
      (hR.kept.resolve_left ha) k.val le_rfl,
    st_t4_eq c arg0 harg0 arg1 harg1 arg2 harg2 arg3 harg3 arg4 harg4 arg5 harg5 v76 v77 k a _ _ _ _ _ _ _ _ _ _ _ _ _
      _ (read_square arg5 _ _) 128 le_rfl]
  exact rel_keep arg2 arg4 v76 v77 b k a ha f2 f4 hR _ rfl

set_option maxHeartbeats 2000000 in
/-- A row skipped. -/
theorem trip_skip (b : ℕ → Rows F) (X3 : BufTy.Contents (Elt F) arg3.view.ty)
    (k : Fin k0_t1_loop.trips) (a : BitVec 32) (ha : Full a) :
    rowInv (F := F) c arg2 arg3 arg4 arg5 v76 v77 b X3 k.val a
    ⊢ wp frame (wpE (defs₀ (F := F)) Variants.none (c : Thread nD τ) none) Set.univ
        (k0_t1_body (F := F) arg0 harg0 arg1 harg1 arg2 harg2 arg3 harg3 arg4 harg4 arg5 harg5 v76 v77 k a)
        (fun y => rowInv (F := F) c arg2 arg3 arg4 arg5 v76 v77 b X3 (k.val + 1) y) := by
  have hk : k.val < 94 := lt_of_lt_of_eq k.isLt rows_eq
  unfold k0_t1_body
  iintro ⟨%f2, %f4, %f5, H2, H3, H4, H5, %h0, %h⟩
  have hR := rel_of arg2 arg4 v76 v77 b k.val a f2 f4 h0 h
  sl_exec_parts
  sl_step
  iexists _
  iexists _
  iexists _
  isplitl [H2]
  · iexact H2
  isplitl [H3]
  · iexact H3
  isplitl [H4]
  · iexact H4
  isplitl [H5]
  · iexact H5
  isplitr
  · ipureintro; exact fun e => absurd e (Nat.succ_ne_zero _)
  ipureintro
  refine fun _ => ?_
  exact rel_skip arg2 arg4 v76 v77 b k a ha f2 f4 hR

/-- The row loop's invariant. -/
@[sl_loop] def loopInv_rows (X3 : BufTy.Contents (Elt F) arg3.view.ty) (init : BitVec 32) :
    Gen.LoopInvTy_k0_t1 (F := F) Unit ℕ (UR sig nD τ) ℕ Variants.none c none Set.univ arg0 harg0 arg1 harg1 arg2 harg2 arg3 harg3 arg4 harg4 arg5 harg5 v76 v77 init :=
  ⟨rowInv (F := F) c arg2 arg3 arg4 arg5 v76 v77 (rowsOf (arg3.view.read (Elt F) X3)) X3, fun k a => by
    by_cases ha : Full a
    · exact trip_skip c arg0 harg0 arg1 harg1 arg2 harg2 arg3 harg3 arg4 harg4 arg5 harg5 v76 v77 _ X3 k a ha
    · exact trip_keep c arg0 harg0 arg1 harg1 arg2 harg2 arg3 harg3 arg4 harg4 arg5 harg5 v76 v77 _ X3 (rowsOf_lt _) k a ha⟩

end

end Cert.Proof.PI
end
-- ==== Proof.PI.Body.lean ====
module
public import proofs.«01_k».proof.Proof.PI.Trip
@[expose] public section
set_option maxRecDepth 16384
noncomputable section

/-!
  # The kernel's body as a function of its two blocks
-/

namespace Cert.Proof.PI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

/-- Slab `ch` of an array of slabs. -/
def slab {n : ℕ} (X : Vec F ⟨3, ![n, 94, 128]⟩ .f32) (ch : Fin n) : Vec F S1x94x128 .f32 := fun y => X (ix3 ch (y 1) (y 2))

/-- The five slabs of decoded boxes, from the anchors' slabs `X` and the offsets' slabs `Y`: four coordinates and the
area. -/
def boxSlabs (X Y : Vec F S4x94x128 .f32) : Fin 5 → Vec F S1x94x128 .f32 :=
  ![k0_pay58 (k0_pay45 (slab X 0) (slab X 2)) (k0_pay53 (slab X 0) (slab X 2) (slab Y 0) (slab Y 2)),
    k0_pay59 (k0_pay46 (slab X 1) (slab X 3)) (k0_pay48 (slab X 1) (slab X 3)) (k0_pay50 (slab Y 1)) (k0_pay52 (slab Y 3)),
    k0_pay60 (k0_pay45 (slab X 0) (slab X 2)) (k0_pay47 (slab X 0) (slab X 2)) (k0_pay49 (slab Y 0)) (k0_pay51 (slab Y 2)),
    k0_pay1 (k0_pay57 (k0_pay46 (slab X 1) (slab X 3)) (k0_pay48 (slab X 1) (slab X 3)) (k0_pay50 (slab Y 1)) (k0_pay52 (slab Y 3))),
    k0_pay2 (k0_pay54 (k0_pay45 (slab X 0) (slab X 2)) (k0_pay53 (slab X 0) (slab X 2) (slab Y 0) (slab Y 2)))
      (k0_pay55 (k0_pay46 (slab X 1) (slab X 3)) (k0_pay48 (slab X 1) (slab X 3)) (k0_pay50 (slab Y 1)) (k0_pay52 (slab Y 3)))
      (k0_pay56 (k0_pay45 (slab X 0) (slab X 2)) (k0_pay47 (slab X 0) (slab X 2)) (k0_pay49 (slab Y 0)) (k0_pay51 (slab Y 2)))
      (k0_pay57 (k0_pay46 (slab X 1) (slab X 3)) (k0_pay48 (slab X 1) (slab X 3)) (k0_pay50 (slab Y 1)) (k0_pay52 (slab Y 3)))]

/-- The decoded boxes. -/
def boxes (X Y : Vec F S4x94x128 .f32) : Vec F S5x94x128 .f32 := fun y => boxSlabs X Y (y 0) (ix3 0 (y 1) (y 2))

/-- The lane numbers along a row. -/
abbrev laneRow : IVec S1x128 32 := iota .tc S1x128 32 [1] iota_S1x128_d1_w32

/-- The lane numbers down a column. -/
abbrev laneCol : IVec S128x1 32 := iota .tc S128x1 32 [0] iota_S128x1_d0_w32

/-- What the kernel computes from its two blocks. -/
def nmsOut (X Y : Vec F S4x94x128 .f32) : Vec F S4x94x128 .f32 := fun y =>
  out laneRow laneCol (rowsOf (boxes X Y)) (y 1).val (y 0) (ix3 0 0 (y 2))

section Slabs
variable {n : ℕ} (v : View sig .tc .vmem ⟨3, ![n, 94, 128]⟩ .f32) (f : v.ty.Contents (Elt F))

/-- A load of a slab reads that slab. -/
theorem load_slab {off : Fin 3 → ℕ} (ch : Fin n) (h : off = ![ch.val, 0, 0])
    (inb : ∀ a, off a + S1x94x128.size a ≤ (⟨3, ![n, 94, 128]⟩ : Shape).size a) :
    v.readAt (Elt F) (Rect.unit (s := ⟨3, ![n, 94, 128]⟩) off S1x94x128.size inb).toLoadRect f
      = slab (v.read (Elt F) f) ch := by
  subst h
  funext y
  refine congrArg (v.read (Elt F) f) (funext fun a => Fin.ext ?_)
  have h0 : (y 0).val < 1 := (y 0).isLt
  fin_cases a
  · show ch.val + 1 * (y 0).val = ch.val
    omega
  · show 0 + 1 * (y 1).val = (y 1).val
    omega
  · show 0 + 1 * (y 2).val = (y 2).val
    omega

/-- A slab just stored reads, row by row, what was stored. -/
theorem slab_hit {off : Fin 3 → ℕ} (ch : Fin n) (k : Fin 94) (h : off = ![ch.val, 0, 0])
    (inb : ∀ a, off a + S1x94x128.size a ≤ (⟨3, ![n, 94, 128]⟩ : Shape).size a) (w : Vec F S1x94x128 .f32)
    (L : List (View.Piece (Elt F) ⟨3, ![n, 94, 128]⟩ .f32)) :
    rowOf (v.read (Elt F) (v.writes (Elt F) f
      ((⟨Rect.unit (s := ⟨3, ![n, 94, 128]⟩) off S1x94x128.size inb, w⟩ : View.Piece (Elt F) ⟨3, ![n, 94, 128]⟩ .f32) :: L))) ch k
      = fun y => w (ix3 0 k (y 2)) := by
  funext y
  refine View.read_writes_cons_unit_of_mem v f inb w L _ (ix3 0 k (y 2)) h fun a => ?_
  fin_cases a
  · show ch.val = ch.val + 0
    omega
  · show k.val = 0 + k.val
    omega
  · show (y 2).val = 0 + (y 2).val
    omega

/-- A store of one slab leaves the others' rows. -/
theorem slab_miss {off : Fin 3 → ℕ} (ch ch' : Fin n) (k : Fin 94) (h : off = ![ch'.val, 0, 0]) (hne : ch ≠ ch')
    (inb : ∀ a, off a + S1x94x128.size a ≤ (⟨3, ![n, 94, 128]⟩ : Shape).size a) (w : Vec F S1x94x128 .f32)
    (L : List (View.Piece (Elt F) ⟨3, ![n, 94, 128]⟩ .f32)) :
    rowOf (v.read (Elt F) (v.writes (Elt F) f
      ((⟨Rect.unit (s := ⟨3, ![n, 94, 128]⟩) off S1x94x128.size inb, w⟩ : View.Piece (Elt F) ⟨3, ![n, 94, 128]⟩ .f32) :: L))) ch k
      = rowOf (v.read (Elt F) (v.writes (Elt F) f L)) ch k := by
  funext y
  refine View.read_writes_cons_unit_of_not_mem v f inb w L _ h 0 ?_
  show ch.val < ch'.val ∨ ch'.val + 1 ≤ ch.val
  have := fun e => hne (Fin.ext e)
  omega

end Slabs

/-- The four slab loads of an input block. -/
theorem load_slabs (v : View sig .tc .vmem S4x94x128 .f32) (f : v.ty.Contents (Elt F)) :
    v.readAt (Elt F) (Rect.unit (s := S4x94x128) ![0, 0, 0] S1x94x128.size inb_S4x94x128_S1x94x128_0_0_0).toLoadRect f = slab (v.read (Elt F) f) 0 ∧
    v.readAt (Elt F) (Rect.unit (s := S4x94x128) ![1, 0, 0] S1x94x128.size inb_S4x94x128_S1x94x128_1_0_0).toLoadRect f = slab (v.read (Elt F) f) 1 ∧
    v.readAt (Elt F) (Rect.unit (s := S4x94x128) ![2, 0, 0] S1x94x128.size inb_S4x94x128_S1x94x128_2_0_0).toLoadRect f = slab (v.read (Elt F) f) 2 ∧
    v.readAt (Elt F) (Rect.unit (s := S4x94x128) ![3, 0, 0] S1x94x128.size inb_S4x94x128_S1x94x128_3_0_0).toLoadRect f = slab (v.read (Elt F) f) 3 :=
  ⟨load_slab v f 0 rfl _, load_slab v f 1 rfl _, load_slab v f 2 rfl _, load_slab v f 3 rfl _⟩

/-- The boxes' buffer after its five slab stores. -/
theorem boxes_rows (arg3 : Memref sig .tc .vmem S5x94x128 .f32) (f : BufTy.Contents (Elt F) arg3.view.ty)
    (w : Fin 5 → Vec F S1x94x128 .f32) (k : Fin 94) (ch : Fin 5) :
    rowOf (arg3.view.read (Elt F) (arg3.view.writes (Elt F) f
      [⟨Rect.unit (s := S5x94x128) ![4, 0, 0] S1x94x128.size inb_S5x94x128_S1x94x128_4_0_0, w 4⟩,
       ⟨Rect.unit (s := S5x94x128) ![3, 0, 0] S1x94x128.size inb_S5x94x128_S1x94x128_3_0_0, w 3⟩,
       ⟨Rect.unit (s := S5x94x128) ![2, 0, 0] S1x94x128.size inb_S5x94x128_S1x94x128_2_0_0, w 2⟩,
       ⟨Rect.unit (s := S5x94x128) ![1, 0, 0] S1x94x128.size inb_S5x94x128_S1x94x128_1_0_0, w 1⟩,
       ⟨Rect.unit (s := S5x94x128) ![0, 0, 0] S1x94x128.size inb_S5x94x128_S1x94x128_0_0_0, w 0⟩])) ch k
      = fun y => w ch (ix3 0 k (y 2)) := by
  fin_cases ch
  · exact (slab_miss arg3.view f 0 4 k (off := ![4, 0, 0]) rfl (by decide) _ _ _).trans <|
      (slab_miss arg3.view f 0 3 k (off := ![3, 0, 0]) rfl (by decide) _ _ _).trans <|
      (slab_miss arg3.view f 0 2 k (off := ![2, 0, 0]) rfl (by decide) _ _ _).trans <|
      (slab_miss arg3.view f 0 1 k (off := ![1, 0, 0]) rfl (by decide) _ _ _).trans <|
      slab_hit arg3.view f 0 k (off := ![0, 0, 0]) rfl _ _ _
  · exact (slab_miss arg3.view f 1 4 k (off := ![4, 0, 0]) rfl (by decide) _ _ _).trans <|
      (slab_miss arg3.view f 1 3 k (off := ![3, 0, 0]) rfl (by decide) _ _ _).trans <|
      (slab_miss arg3.view f 1 2 k (off := ![2, 0, 0]) rfl (by decide) _ _ _).trans <|
      slab_hit arg3.view f 1 k (off := ![1, 0, 0]) rfl _ _ _
  · exact (slab_miss arg3.view f 2 4 k (off := ![4, 0, 0]) rfl (by decide) _ _ _).trans <|
      (slab_miss arg3.view f 2 3 k (off := ![3, 0, 0]) rfl (by decide) _ _ _).trans <|
      slab_hit arg3.view f 2 k (off := ![2, 0, 0]) rfl _ _ _
  · exact (slab_miss arg3.view f 3 4 k (off := ![4, 0, 0]) rfl (by decide) _ _ _).trans <|
      slab_hit arg3.view f 3 k (off := ![3, 0, 0]) rfl _ _ _
  · exact slab_hit arg3.view f 4 k (off := ![4, 0, 0]) rfl _ _ _

set_option maxHeartbeats 2000000 in
/-- The kernel's body leaves in the output's buffer what it computes from its two blocks. -/
theorem body_run (c : Dev nD) (arg0 : Memref sig .tc .vmem S4x94x128 .f32) (harg0 : arg0.IsWhole) (arg1 : Memref sig .tc .vmem S4x94x128 .f32) (harg1 : arg1.IsWhole) (arg2 : Memref sig .tc .vmem S4x94x128 .f32) (harg2 : arg2.IsWhole) (arg3 : Memref sig .tc .vmem S5x94x128 .f32) (harg3 : arg3.IsWhole) (arg4 : Memref sig .tc .vmem S5x94x128 .f32) (harg4 : arg4.IsWhole) (arg5 : Memref sig .tc .vmem S128x128 .f32) (harg5 : arg5.IsWhole)
    (f0 : BufTy.Contents (Elt F) arg0.view.ty) (f1 : BufTy.Contents (Elt F) arg1.view.ty) (f2 : BufTy.Contents (Elt F) arg2.view.ty)
    (f3 : BufTy.Contents (Elt F) arg3.view.ty) (f4 : BufTy.Contents (Elt F) arg4.view.ty) (f5 : BufTy.Contents (Elt F) arg5.view.ty) :
    iprop((arg0.view.loc (c : Thread nD τ) ↦[arg0.view.set]{fullShare} f0) ∗ (arg1.view.loc (c : Thread nD τ) ↦[arg1.view.set]{fullShare} f1) ∗
      (arg2.view.loc (c : Thread nD τ) ↦[arg2.view.set]{fullShare} f2) ∗ (arg3.view.loc (c : Thread nD τ) ↦[arg3.view.set]{fullShare} f3) ∗
      (arg4.view.loc (c : Thread nD τ) ↦[arg4.view.set]{fullShare} f4) ∗ (arg5.view.loc (c : Thread nD τ) ↦[arg5.view.set]{fullShare} f5) : sProp 𝕄)
    ⊢ wp frame (wpE (defs₀ (F := F)) Variants.none (c : Thread nD τ) none) Set.univ
        (cc0__nms_body (F := F) arg0 harg0 arg1 harg1 arg2 harg2 arg3 harg3 arg4 harg4 arg5 harg5)
        (fun _ => iprop(∃ g2 g3 g4 g5, (arg0.view.loc (c : Thread nD τ) ↦[arg0.view.set]{fullShare} f0) ∗ (arg1.view.loc (c : Thread nD τ) ↦[arg1.view.set]{fullShare} f1) ∗
      (arg2.view.loc (c : Thread nD τ) ↦[arg2.view.set]{fullShare} g2) ∗ (arg3.view.loc (c : Thread nD τ) ↦[arg3.view.set]{fullShare} g3) ∗
      (arg4.view.loc (c : Thread nD τ) ↦[arg4.view.set]{fullShare} g4) ∗ (arg5.view.loc (c : Thread nD τ) ↦[arg5.view.set]{fullShare} g5) ∗
      ⌜arg2.view.read (Elt F) g2 = nmsOut (arg0.view.read (Elt F) f0) (arg1.view.read (Elt F) f1)⌝)) := by
  rw [cc0__nms_body_eq_skeleton]
  unfold cc0__nms_body_skel
  iintro ⟨H0, H1, H2, H3, H4, H5⟩
  sl_exec_parts
  sl_step
  iexists f2L0
  iexists _
  iexists f4L1
  iexists f5L2
  isplitl [H0]
  · iexact H0
  isplitl [H1]
  · iexact H1
  isplitl [H2]
  · iexact H2
  isplitl [H3]
  · iexact H3
  isplitl [H4]
  · iexact H4
  isplitl [H5]
  · iexact H5
  ipureintro
  have n1 : Scf.trips k0_t1_loop.lb k0_t1_loop.ub k0_t1_loop.st = 94 := rows_eq
  rw [n1] at hL5
  have hrows : rowsOf (arg3.view.read (Elt F) (arg3.view.writes (Elt F) arg3.view.junk (body_run.sl.H3_5 arg0 arg1 f0 f1)))
      = rowsOf (boxes (arg0.view.read (Elt F) f0) (arg1.view.read (Elt F) f1)) := by
    funext k ch
    unfold rowsOf
    split
    · next h =>
      unfold body_run.sl.H3_5 body_run.sl.r_12 body_run.sl.r_11 body_run.sl.r_10 body_run.sl.r_9 body_run.sl.r_8
        body_run.sl.r_7 body_run.sl.r_6 body_run.sl.r_5 body_run.sl.r_4 body_run.sl.r_3 body_run.sl.r_2 body_run.sl.r_1 body_run.sl.r
      obtain ⟨a0, a1, a2, a3⟩ := load_slabs arg0.view f0
      obtain ⟨b0, b1, b2, b3⟩ := load_slabs arg1.view f1
      rw [a0, a1, a2, a3, b0, b1, b2, b3]
      exact boxes_rows arg3 _ (boxSlabs (arg0.view.read (Elt F) f0) (arg1.view.read (Elt F) f1)) ⟨k, h⟩ ch
    · rfl
  rw [hrows] at hL5
  have ho := (hL5 (by decide)).outs
  funext y
  have e := congrFun (ho (y 1) (y 1).isLt (y 0)) (ix3 0 0 (y 2))
  refine Eq.trans (congrArg (arg2.view.read (Elt F) f2L0) (funext fun a => ?_)) e
  fin_cases a <;> rfl

end Cert.Proof.PI
end
-- ==== Proof.PI.Frame.lean ====
module
public import proofs.«01_k».proof.Proof.PI.Body
public import proofs.«01_k».proof.Proof.Gen.KernelIdeal.Frame
public import proofs.«01_k».proof.Proof.Gen.KernelIdeal.Points
@[expose] public section
set_option maxRecDepth 16384
noncomputable section

/-!
  # The launch: what the output array holds afterwards

  The body's run at the launch's one grid point, the proof data of the pipeline, and the run of the whole program.
-/

namespace Cert.Proof.PI
open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The body over staging buffers that read `X` and `Y`. -/
theorem body_owns (c : Dev nD) (arg0 : Memref sig .tc .vmem S4x94x128 .f32) (harg0 : arg0.IsWhole) (arg1 : Memref sig .tc .vmem S4x94x128 .f32) (harg1 : arg1.IsWhole) (arg2 : Memref sig .tc .vmem S4x94x128 .f32) (harg2 : arg2.IsWhole) (arg3 : Memref sig .tc .vmem S5x94x128 .f32) (harg3 : arg3.IsWhole) (arg4 : Memref sig .tc .vmem S5x94x128 .f32) (harg4 : arg4.IsWhole) (arg5 : Memref sig .tc .vmem S128x128 .f32) (harg5 : arg5.IsWhole)
    (X Y : Vec F S4x94x128 .f32) :
    iprop(owns (c : Thread nD τ) arg0 fullShare X ∗ owns (c : Thread nD τ) arg1 fullShare Y ∗ (∃ d, owns (c : Thread nD τ) arg2 fullShare d)
      ∗ (∃ d, owns (c : Thread nD τ) arg3 fullShare d) ∗ (∃ d, owns (c : Thread nD τ) arg4 fullShare d) ∗ (∃ d, owns (c : Thread nD τ) arg5 fullShare d) : sProp 𝕄)
    ⊢ wp frame (wpE (defs₀ (F := F)) Variants.none (c : Thread nD τ) none) Set.univ
        (cc0__nms_body (F := F) arg0 harg0 arg1 harg1 arg2 harg2 arg3 harg3 arg4 harg4 arg5 harg5)
        (fun _ => iprop(owns (c : Thread nD τ) arg0 fullShare X ∗ owns (c : Thread nD τ) arg1 fullShare Y ∗ owns (c : Thread nD τ) arg2 fullShare (nmsOut X Y)
          ∗ (∃ d, owns (c : Thread nD τ) arg3 fullShare d) ∗ (∃ d, owns (c : Thread nD τ) arg4 fullShare d) ∗ (∃ d, owns (c : Thread nD τ) arg5 fullShare d))) := by
  unfold owns
  iintro ⟨⟨%f0, %h0, H0⟩, ⟨%f1, %h1, H1⟩, ⟨%d2, %f2, -, H2⟩, ⟨%d3, %f3, -, H3⟩, ⟨%d4, %f4, -, H4⟩, ⟨%d5, %f5, -, H5⟩⟩
  subst h0
  subst h1
  iapply (wp_wand_r Idealize.ShloMosaic.frame (wpE (defs₀ (F := F)) Variants.none (c : Thread nD τ) none) Set.univ)
  isplitl [H0 H1 H2 H3 H4 H5]
  · iapply (body_run c arg0 harg0 arg1 harg1 arg2 harg2 arg3 harg3 arg4 harg4 arg5 harg5 f0 f1 f2 f3 f4 f5)
    isplitl [H0]; · iexact H0
    isplitl [H1]; · iexact H1
    isplitl [H2]; · iexact H2
    isplitl [H3]; · iexact H3
    isplitl [H4]; · iexact H4
    iexact H5
  iintro %x ⟨%g2, %g3, %g4, %g5, H0, H1, H2, H3, H4, H5, %ho⟩
  isplitl [H0]
  · iexists f0; isplitr; · ipureintro; rfl
    iexact H0
  isplitl [H1]
  · iexists f1; isplitr; · ipureintro; rfl
    iexact H1
  isplitl [H2]
  · iexists g2; isplitr; · ipureintro; exact ho
    iexact H2
  isplitl [H3]
  · iexists _, g3; isplitr; · ipureintro; rfl
    iexact H3
  isplitl [H4]
  · iexists _, g4; isplitr; · ipureintro; rfl
    iexact H4
  iexists _, g5; isplitr; · ipureintro; rfl
  iexact H5

/-- The proof data of the one launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => nmsOut (iblk m c 0 t) (iblk m c 1 t)
  Φ _ := Pipeline.ΦA spec0 c
  q _ := fullShare
  owed _ := 0

/-- The launch's arrays are what the host left in them. -/
theorem A_eq (c : Dev nD) (w : Fin cfg0.W) : (dats m 0 c).A w = V m c (Pipeline.arrRef spec0 w) := by
  dsimp only [dats]

/-- The first input block stays as it is. -/
theorem after0_0 (c : Dev nD) (t : Fin cfg0.N) : (dats m 0 c).after 0 t = iblk m c 0 t := by dsimp only [dats]
/-- The second input block stays as it is. -/
theorem after0_1 (c : Dev nD) (t : Fin cfg0.N) : (dats m 0 c).after 1 t = iblk m c 1 t := by dsimp only [dats]
/-- The output block holds what the body computes. -/
theorem after0_2 (c : Dev nD) (t : Fin cfg0.N) : (dats m 0 c).after 2 t = nmsOut (iblk m c 0 t) (iblk m c 1 t) := by dsimp only [dats]

/-- The launch's scratch, each buffer owned at some contents. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]
  simp only [owns_whole]

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body meets the launch's proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    after0_0, after0_1, after0_2, PhiA_eq]
  unfold Dat.owesAt Pipeline.owesWithin
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c)]
  iintro ⟨⟨⟨HS0, HS1, HS2⟩, Hg⟩, ⟨%W, %hW, HW⟩, ⟨%d0, H0⟩, ⟨%d1, H1⟩, ⟨%d2, H2⟩⟩
  iapply (wp_wand_r Idealize.ShloMosaic.frame (wpE (defs₀ (F := F)) Variants.none (c : Thread nD τ) none) Set.univ)
  isplitl [H0 H1 H2 HS0 HS1 HS2]
  · iapply (body_owns c _ _ _ _ _ _ _ _ _ _ _ _ (iblk m c 0 t) (iblk m c 1 t))
    isplitl [H0]; · iexact H0
    isplitl [H1]; · iexact H1
    isplitl [H2]; · iexists _; iexact H2
    isplitl [HS0]; · iexact HS0
    isplitl [HS1]; · iexact HS1
    iexact HS2
  iintro %x ⟨H0, H1, H2, HS0, HS1, HS2⟩
  isplitl [HS0 HS1 HS2 Hg]
  · isplitl [HS0 HS1 HS2]
    · isplitl [HS0]; · iexact HS0
      isplitl [HS1]; · iexact HS1
      iexact HS2
    iexact Hg
  isplitl [HW]
  · iexists W; isplitr; · ipureintro; exact hW
    iexact HW
  isplitl [H0]; · iexact H0
  isplitl [H1]; · iexact H1
  iexact H2

/-- The table's entry for the launch is the body at a point. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: the arrays as the launch leaves them, the lines after it on top, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run leaves the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c))⟩, h.2⟩)
    (run_main m ρ)

end Cert.Proof.PI
end
-- ==== Proof.P.Frame.lean ====
module
public import proofs.«01_k».proof.Proof.PI.Frame
public import proofs.«01_k».proof.Proof.Gen.Kernel
@[expose] public section
set_option maxRecDepth 16384
noncomputable section

/-!
  # The kernel as printed

  The idealized program is the printed one's own text, so what is proved of either is proved of both.
-/

namespace Cert.Proof.P
open Idealize.ShloMosaic Idealize.ShloMosaic.TcCoe
open Idealize.SL.Sem
variable {F : FTy → Type} [FloatOps F] [Cert.Kernel.Facts] [Cert.KernelIdeal.Facts]

/-- The two programs' bodies are one. -/
theorem body_same : @Cert.Kernel.cc0__nms_body F _ _ = @Cert.KernelIdeal.cc0__nms_body F _ _ := rfl

/-- The two programs' tables of bodies are one. -/
theorem defs₀_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- The two programs' definitions are one. -/
theorem defs_same : Cert.Kernel.defs (F := F) = Cert.KernelIdeal.defs (F := F) := by
  unfold Cert.Kernel.defs Cert.KernelIdeal.defs
  rw [defs₀_same]
  rfl

/-- The two programs' main functions are one. -/
theorem main_same : Cert.Kernel.main (F := F) = Cert.KernelIdeal.main (F := F) := rfl

end Cert.Proof.P

namespace Cert.Proof.P
open Cert.Kernel
open Idealize.ShloMosaic Idealize.ShloMosaic.TcCoe
open Idealize.SL.Sem
variable {F : FTy → Type} [FloatOps F]
variable (m : (ℓ : Loc nD τ sig) → Buf (Elt F) ℓ) (ρ : Dev nD → PrngReg)

/-- Every run of the printed kernel leaves the arguments as they were and every counter at zero. -/
theorem frame_run [Cert.Kernel.Facts] [Cert.KernelIdeal.Facts] : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  rw [defs_same, main_same]
  exact Cert.Proof.PI.frame_run m ρ

end Cert.Proof.P
end
-- ==== Proof.RI.Frame.lean ====
module
public import proofs.«01_k».proof.Proof.Gen.ReferenceIdeal.Run
public import proofs.«01_k».proof.Proof.Gen.ReferenceIdeal
public import Idealize.ShloMosaic.Lib.Quiescent
@[expose] public section
set_option maxRecDepth 16384
noncomputable section

/-!
  # The reference leaves its arguments as they were

  None of its operations writes an argument, and it declares no semaphore.
-/

namespace Cert.Proof.RI
open Cert.ReferenceIdeal Cert.ReferenceIdeal.Gen Cert.ReferenceIdeal.Value
open Idealize.ShloMosaic Idealize.ShloMosaic.TcCoe Idealize.ShloMosaic.StableHlo
open Idealize.SL.Sem
variable {F : FTy → Type} [FloatOps F]
variable (m : (ℓ : Loc nD τ sig) → Buf (Elt F) ℓ) (ρ : Dev nD → PrngReg)

/-- The buffers the loop's condition and the operations after the loop write. -/
abbrev lateW : List (Ref sig .tc) := [main_while0c_c_21, main_while0c_v91, main_v82, main_call5_call0_c, main_call5_call0_v0, main_v83, main_c_15, main_v84, main_v85, main_v86, main_v87, main_v88, main_v89, main_v90]

/-- The operations of a stretch all write among `lateW`. -/
theorem late_keeps {b : Ref sig .tc} (hb : b ∉ lateW) {ops : List (HloOp τ sig (Elt F))} {W : List (Ref sig .tc)}
    (h : ops.Forall fun op => op.writes ⊆ (W.map (Proc.devRef (τ := τ) .tc)).toFinset) (hW : ∀ w ∈ W, w ∈ lateW) (V : Valuation τ sig (Elt F)) :
    after ops V (Proc.devRef .tc b) = V (Proc.devRef .tc b) :=
  after_of_writes_sub ops V h fun hm => hb (hW b hm)

/-- What no stretch before the loop writes. -/
def Early (b : Ref sig .tc) : Prop := b ∉ hostOps0_W ∧ b ∉ hostOps0_1_W ∧ b ∉ hostOps0_2_W ∧ b ∉ hostOps0_3_W ∧ b ∉ hostOps0_4_W ∧ b ∉ hostOps0_5_W
  ∧ b ∉ hostOps0_6_W ∧ b ∉ hostOps0_7_W ∧ b ∉ hostOps0_8_W
/-- What the loop's body does not write. -/
def Looped (b : Ref sig .tc) : Prop := b ∉ while0Ops0_W ∧ b ∉ while0Ops0_1_W ∧ b ∉ while0Ops0_2_W

/-- Whether a buffer is early can be decided. -/
instance (b : Ref sig .tc) : Decidable (Early b) := by unfold Early; infer_instance
/-- Whether the loop leaves a buffer alone can be decided. -/
instance (b : Ref sig .tc) : Decidable (Looped b) := by unfold Looped; infer_instance

/-- What no stretch before the loop writes is kept up to the loop. -/
theorem early_keeps {b : Ref sig .tc} (h : Early b) (V : Valuation τ sig (Elt F)) : afterL preI V (Proc.devRef .tc b) = V (Proc.devRef .tc b) := by
  obtain ⟨h0, h1, h2, h3, h4, h5, h6, h7, h8⟩ := h
  simp only [afterL_cons, afterL_nil]
  rw [after_of_writes_sub _ _ hostOps0_8_writes h8, after_of_writes_sub _ _ hostOps0_7_writes h7, after_of_writes_sub _ _ hostOps0_6_writes h6,
    after_of_writes_sub _ _ hostOps0_5_writes h5, after_of_writes_sub _ _ hostOps0_4_writes h4, after_of_writes_sub _ _ hostOps0_3_writes h3,
    after_of_writes_sub _ _ hostOps0_2_writes h2, after_of_writes_sub _ _ hostOps0_1_writes h1, after_of_writes_sub _ _ hostOps0_writes h0]

/-- The loop's condition keeps it. -/
theorem cond_keeps_of {b : Ref sig .tc} (hl : b ∉ lateW) (V : Valuation τ sig (Elt F)) : after condOps V (Proc.devRef .tc b) = V (Proc.devRef .tc b) :=
  late_keeps (W := [main_while0c_c_21, main_while0c_v91]) hl (StableHlo.forall_writes_sub_of_map rfl) (by decide) V

/-- The rounds keep it. -/
theorem loop_keeps {b : Ref sig .tc} (h : Looped b) (hl : b ∉ lateW) (W₀ : Dev nD → Valuation τ sig (Elt F)) (c : Dev nD) :
    ∀ k, atTrip condOps bodyI W₀ k c (Proc.devRef .tc b) = W₀ c (Proc.devRef .tc b)
  | 0 => rfl
  | k + 1 => by
    obtain ⟨h0, h1, h2⟩ := id h
    rw [atTrip_succ]
    simp only [afterL_cons, afterL_nil]
    rw [after_of_writes_sub _ _ while0Ops0_2_writes h2, after_of_writes_sub _ _ while0Ops0_1_writes h1, after_of_writes_sub _ _ while0Ops0_writes h0,
      cond_keeps_of hl, loop_keeps h hl W₀ c k]

/-- The lines after the loop keep it. -/
theorem post_keeps {b : Ref sig .tc} (hl : b ∉ lateW) (V : Valuation τ sig (Elt F)) : afterL postI V (Proc.devRef .tc b) = V (Proc.devRef .tc b) := by
  simp only [afterL_cons, afterL_nil]
  rw [late_keeps (W := [main_c_15, main_v84, main_v85, main_v86, main_v87, main_v88, main_v89, main_v90]) hl (StableHlo.forall_writes_sub_of_map rfl) (by decide),
    late_keeps (W := [main_call5_call0_c, main_call5_call0_v0, main_v83]) hl (StableHlo.forall_writes_sub_of_map rfl) (by decide),
    late_keeps (W := [main_v82]) hl (StableHlo.forall_writes_sub_of_map rfl) (by decide)]

/-- An argument ends as it began. -/
theorem arg_kept {b : Ref sig .tc} (he : Early b) (hk : Looped b) (hl : b ∉ lateW) (c : Dev nD) :
    finalContents condOps preI bodyI postI 12000 m c (Proc.devRef .tc b) = m ((c.tc : Thread nD τ).loc b) := by
  rw [finalContents, post_keeps hl, cond_keeps_of hl, loop_keeps hk hl, entryContents, early_keeps he]

/-- Every run of the reference leaves the arguments as they were and every counter at zero. -/
theorem frame_run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h c main_arg0 rfl).trans (arg_kept m (by decide) (by decide) (by decide) c),
      (h c main_arg1 rfl).trans (arg_kept m (by decide) (by decide) (by decide) c),
      (h c main_arg2 rfl).trans (arg_kept m (by decide) (by decide) (by decide) c)⟩, sem_eq_zero_of_no_sems rfl _⟩)
    (run_fold m ρ)

end Cert.Proof.RI
end
-- ==== Proof.Nms.lean ====
module
public import Idealize.ShloMosaic.Lib.Pointwise
public import Idealize.ShloMosaic.Lib.ValueIdx
public import Idealize.ShloMosaic.Lib.IdealHost
public import Mathlib.Data.Nat.Count
@[expose] public section
noncomputable section

/-!
  # Greedy suppression over the extended reals

  A box is four coordinates and an area. Boxes come in an order; one is kept when no kept box before it overlaps it by the
  threshold or more. Both programs are shown to compute the functions of this module.
-/

namespace Cert.Proof
open Idealize.ShloMosaic

/-- Top, left, bottom, right, area. -/
abbrev Box := Fin 5 → EReal

/-- 1 where `p` holds, 0 elsewhere. -/
def ind (p : Prop) : EReal := open Classical in if p then 1 else 0

/-- A true statement's value is 1. -/
theorem ind_true {p : Prop} (h : p) : ind p = 1 := if_pos h
/-- A false statement's value is 0. -/
theorem ind_false {p : Prop} (h : ¬p) : ind p = 0 := if_neg h
/-- Equivalent statements have one value. -/
theorem ind_congr {p q : Prop} (h : p ↔ q) : ind p = ind q := by rw [propext h]
/-- A product of values says `and`. -/
theorem ind_mul (p q : Prop) : ind p * ind q = ind (p ∧ q) := by
  by_cases hp : p <;> by_cases hq : q <;> simp [ind, hp, hq]
/-- The greater of two values says `or`. -/
theorem ind_max (p q : Prop) : max (ind p) (ind q) = ind (p ∨ q) := by
  by_cases hp : p <;> by_cases hq : q <;> simp [ind, hp, hq]
/-- The sum says `or` where not both hold. -/
theorem ind_add {p q : Prop} (h : ¬(p ∧ q)) : ind p + ind q = ind (p ∨ q) := by
  by_cases hp : p <;> by_cases hq : q <;> simp [ind, hp, hq]
  exact absurd ⟨hp, hq⟩ h
/-- The sum is positive where one of them holds. -/
theorem ind_add_pos (p q : Prop) : 0 < ind p + ind q ↔ p ∨ q := by
  by_cases hp : p <;> by_cases hq : q <;> simp [ind, hp, hq]

/-- The greatest of 0/1 values, starting at the bottom, is 1 exactly where one of them is. -/
theorem fold_max_ind {ι : Type*} (s : Finset ι) (hs : s.Nonempty) (p : ι → Prop) :
    s.fold max ⊥ (fun i => ind (p i)) = ind (∃ i ∈ s, p i) := by
  classical
  induction hs using Finset.Nonempty.cons_induction with
  | singleton a => simp [Finset.fold_singleton]
  | cons a s ha hs ih =>
    rw [Finset.fold_cons, ih, ind_max]
    exact ind_congr (by simp)

/-- The word of minus infinity is the bottom. -/
theorem ofBits_neg_inf : Ideal.ofBits .f32 0xFF800000#32 = ⊥ := by simp [Ideal.ofBits, Ideal.ieee]

/-- The overlap threshold. -/
def thr : EReal := Ideal.ofBits .f32 0x3F333333#32

/-- The threshold is positive. -/
theorem thr_pos : 0 < thr := by
  have h : thr = (((11744051 : ℝ) / 16777216 : ℝ) : EReal) := by
    unfold thr
    simp [Ideal.ofBits, Ideal.ieee, -EReal.coe_mul]; norm_num
  rw [h]
  exact EReal.coe_pos.mpr (by norm_num)

/-- The overlap of two boxes. -/
def cap (a b : Box) : EReal := open Classical in
  if max (a 0) (b 0) < min (a 2) (b 2) ∧ max (a 1) (b 1) < min (a 3) (b 3) then
    (min (a 2) (b 2) - max (a 0) (b 0)) * (min (a 3) (b 3) - max (a 1) (b 1))
  else 0

/-- `b` overlaps `a` by the threshold or more. -/
def Hit (a b : Box) : Prop := thr ≤ Ideal.div (cap a b) (a 4 + b 4 - cap a b)

/-- Boxes that don't overlap don't hit. -/
theorem not_hit_of_cap {a b : Box} (h : cap a b = 0) : ¬Hit a b := by
  unfold Hit
  rw [h, Ideal.div]
  split
  · simp [thr_pos.ne_bot, lt_irrefl]
  · simpa using thr_pos

/-- A box blanked out hits nothing that lies at or below the top edge. -/
theorem hit_masked {a b : Box} (ha : 0 ≤ a 0) (p : Prop) : Hit a (fun c => b c * ind p) ↔ p ∧ Hit a b := by
  by_cases hp : p
  · simp [ind, hp]
  · simp only [ind, hp, if_false, mul_zero, false_and, iff_false]
    refine not_hit_of_cap (if_neg fun h => ?_)
    have h1 := h.1
    simp only [lt_min_iff, max_lt_iff] at h1
    exact absurd h1.2.1 (not_lt.mpr ha)

/-- Box `n` is kept. -/
def keep (B : ℕ → Box) (n : ℕ) : Prop := n < 12000 ∧ ∀ j, ∀ _ : j < n, keep B j → ¬Hit (B n) (B j)
termination_by n

/-- What it means to be kept. -/
theorem keep_iff (B : ℕ → Box) (n : ℕ) : keep B n ↔ n < 12000 ∧ ∀ j < n, keep B j → ¬Hit (B n) (B j) := by
  rw [keep]

/-- Only the boxes that count matter. -/
theorem keep_congr {B B' : ℕ → Box} (h : ∀ n < 12000, B n = B' n) : ∀ n, keep B n ↔ keep B' n := by
  intro n
  induction n using Nat.strong_induction_on with
  | _ n ih =>
    rw [keep_iff, keep_iff]
    refine and_congr_right fun hn => forall_congr' fun j => forall_congr' fun hj => ?_
    rw [ih j hj, h n hn, h j (hj.trans hn)]

open Classical in
/-- How many of the first `n` boxes are kept. -/
def kept (B : ℕ → Box) (n : ℕ) : ℕ := Nat.count (keep B) n

/-- Of no boxes none is kept. -/
theorem kept_zero (B : ℕ → Box) : kept B 0 = 0 := by classical exact Nat.count_zero _

open Classical in
/-- The count goes up by one at a kept box. -/
theorem kept_succ (B : ℕ → Box) (n : ℕ) : kept B (n + 1) = kept B n + if keep B n then 1 else 0 := Nat.count_succ ..

/-- The count doesn't go down. -/
theorem kept_mono (B : ℕ → Box) {a b : ℕ} (h : a ≤ b) : kept B a ≤ kept B b := by classical exact Nat.count_monotone _ h

/-- No more are kept than there are. -/
theorem kept_le (B : ℕ → Box) (n : ℕ) : kept B n ≤ n := by classical exact Nat.count_le _

/-- Only the boxes that count matter to the count. -/
theorem kept_congr {B B' : ℕ → Box} (h : ∀ n < 12000, B n = B' n) (n : ℕ) : kept B n = kept B' n := by
  have : keep B = keep B' := funext fun n => propext (keep_congr h n)
  exact congrArg (fun p : ℕ → Prop => open Classical in Nat.count p n) this

/-- Box `n` is put out: kept, and among the first 2000 kept. -/
def final (B : ℕ → Box) (n : ℕ) : Prop := keep B n ∧ kept B (n + 1) ≤ 2000

/-- Only the boxes that count matter to what is put out. -/
theorem final_congr {B B' : ℕ → Box} (h : ∀ n < 12000, B n = B' n) (n : ℕ) : final B n ↔ final B' n := by
  unfold final; rw [keep_congr h, kept_congr h]

/-- After 2000 kept boxes nothing is put out. -/
theorem not_final {B : ℕ → Box} {n : ℕ} (h : 2000 ≤ kept B n) : ¬final B n := fun hf => by
  have h2 := hf.2
  rw [kept_succ, if_pos hf.1] at h2
  omega

end Cert.Proof
end
-- ==== Proof.PI.Lanes.lean ====
module
public import proofs.«01_k».proof.Proof.PI.Rows
public import proofs.«01_k».proof.Proof.Nms
@[expose] public section
set_option maxRecDepth 16384
noncomputable section

/-!
  # A row's arithmetic over the extended reals

  The transposed columns, the overlaps of a row with the rows before it and with itself, and one lane's step.
-/

namespace Cert.Proof.PI
open Cert.KernelIdeal Cert.KernelIdeal.Gen
open Idealize.ShloMosaic Idealize.ShloMosaic.TcCoe

/-- The box at lane `l` of a row. -/
def boxAt (b : Rows Ideal) (l : Fin 128) : Box := fun ch => b ch (ix3 0 0 l)

/-- A truth bit widened and turned into a float is the statement's value. -/
theorem sitofp_ofBool (P : Prop) [Decidable P] :
    (FloatOps.sitofp (F := Ideal) FTy.f32 (BitVec.setWidth 32 (BitVec.ofBool (decide P))) : EReal) = ind P := by
  by_cases h : P
  · rw [ind_true h, decide_eq_true h]
    show (((BitVec.setWidth 32 (BitVec.ofBool true)).toInt : ℝ) : EReal) = 1
    rw [show (BitVec.setWidth 32 (BitVec.ofBool true)).toInt = 1 from by decide]
    norm_num
  · rw [ind_false h, decide_eq_false h]
    show (((BitVec.setWidth 32 (BitVec.ofBool false)).toInt : ℝ) : EReal) = 0
    rw [show (BitVec.setWidth 32 (BitVec.ofBool false)).toInt = 0 from by decide]
    norm_num

/-- `and` of truth bits. -/
theorem andi_ofBool (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

/-- A select by a truth bit. -/
theorem select_ofBool {α : Type} (P : Prop) [Decidable P] (x y : α) : Scalar.select (BitVec.ofBool (decide P)) x y = if P then x else y := by
  by_cases hP : P <;> simp [hP, Scalar.select]

/-- The overlap test as the kernel spells it. -/
theorem hit_bits (a b : Box) :
    (FloatOps.sitofp (F := Ideal) FTy.f32 (BitVec.setWidth 32 (BitVec.ofBool (decide (Ideal.ofBits FTy.f32 0x3F333333#32 ≤
      Ideal.div
        (Scalar.select (IntOp.andi (BitVec.ofBool (decide (max (a 0) (b 0) < min (a 2) (b 2)))) (BitVec.ofBool (decide (max (a 1) (b 1) < min (a 3) (b 3)))))
          ((min (a 2) (b 2) - max (a 0) (b 0)) * (min (a 3) (b 3) - max (a 1) (b 1))) 0)
        (a 4 + b 4 -
          Scalar.select (IntOp.andi (BitVec.ofBool (decide (max (a 0) (b 0) < min (a 2) (b 2)))) (BitVec.ofBool (decide (max (a 1) (b 1) < min (a 3) (b 3)))))
          ((min (a 2) (b 2) - max (a 0) (b 0)) * (min (a 3) (b 3) - max (a 1) (b 1))) 0))))) : EReal) = ind (Hit a b) := by
  rw [sitofp_ofBool]
  refine ind_congr ?_
  simp only [andi_ofBool, select_ofBool]
  unfold Hit cap thr
  congr!

/-- The unit matrix. -/
theorem eye_apply (i l : Fin 128) : (k0_pay3 : FVec Ideal S128x128 .f32) (ix2 i l) = ind (i = l) := by
  unfold k0_pay3
  pointwise
  refine Eq.trans ?_ (sitofp_ofBool _)
  refine congrArg (fun x => FloatOps.sitofp (F := Ideal) FTy.f32 (BitVec.setWidth 32 (BitVec.ofBool x))) ?_
  show (BitVec.ofNat 32 i.val == BitVec.ofNat 32 l.val) = _
  rw [Bool.eq_iff_iff, beq_iff_eq, decide_eq_true_iff]
  constructor
  · intro h
    have := congrArg BitVec.toNat h
    simp only [BitVec.toNat_ofNat] at this
    exact Fin.ext (by omega)
  · rintro rfl; rfl

/-- A sum against a column of the identity picks out one term. -/
theorem sum_eye (x : EReal) (l : Fin 128) : (∑ k : Fin 128, x * (k0_pay3 : FVec Ideal S128x128 .f32) (ix2 k l)) = x := by
  simp only [eye_apply]
  rw [Finset.sum_eq_single l]
  · rw [ind_true rfl, mul_one]
  · intro k _ hk
    rw [ind_false hk, mul_zero]
  · simp

/-- A box row's first channel, laid flat. -/
theorem row8 (r : Row Ideal) (i : Fin 128) : k0_pay8 r (ix2 0 i) = r (ix3 0 0 i) := by unfold k0_pay8; pointwise
/-- A box row's second channel, laid flat. -/
theorem row9 (r : Row Ideal) (i : Fin 128) : k0_pay9 r (ix2 0 i) = r (ix3 0 0 i) := by unfold k0_pay9; pointwise
/-- A box row's third channel, laid flat. -/
theorem row10 (r : Row Ideal) (i : Fin 128) : k0_pay10 r (ix2 0 i) = r (ix3 0 0 i) := by unfold k0_pay10; pointwise
/-- A box row's fourth channel, laid flat. -/
theorem row11 (r : Row Ideal) (i : Fin 128) : k0_pay11 r (ix2 0 i) = r (ix3 0 0 i) := by unfold k0_pay11; pointwise
/-- A box row's fifth channel, laid flat. -/
theorem row12 (r : Row Ideal) (i : Fin 128) : k0_pay12 r (ix2 0 i) = r (ix3 0 0 i) := by unfold k0_pay12; pointwise

/-- The five channels stood up as columns by the unit matrix. -/
theorem cols (r0 r1 r2 r3 r4 : Row Ideal) (i l : Fin 128) :
    k0_pay14 (F := Ideal) k0_pay3 r0 r1 r2 r3 r4 (ix2 i l) = r0 (ix3 0 0 i)
      ∧ k0_pay15 (F := Ideal) k0_pay3 r0 r1 r2 r3 r4 (ix2 i l) = r1 (ix3 0 0 i)
      ∧ k0_pay16 (F := Ideal) k0_pay3 r0 r1 r2 r3 r4 (ix2 i l) = r2 (ix3 0 0 i)
      ∧ k0_pay17 (F := Ideal) k0_pay3 r0 r1 r2 r3 r4 (ix2 i l) = r3 (ix3 0 0 i)
      ∧ k0_pay18 (F := Ideal) k0_pay3 r0 r1 r2 r3 r4 (ix2 i l) = r4 (ix3 0 0 i) := by
  unfold k0_pay14 k0_pay15 k0_pay16 k0_pay17 k0_pay18 k0_pay13
  refine ⟨?_, ?_, ?_, ?_, ?_⟩
  all_goals
    pointwise
    simp only [row8, row9, row10, row11, row12]
    try split_ifs
  all_goals first | (exfalso; omega) | (refine (sum_eye _ _).trans ?_; first | rfl | (congr 3; omega))

/-- The square of overlap tests within a row. -/
theorem hit_square (b : Rows Ideal) (i l : Fin 128) : overlapOf b (ix2 i l) = ind (Hit (boxAt b i) (boxAt b l)) := by
  unfold overlapOf k0_pay24 k0_pay22 k0_pay23
  pointwise
  simp only [row8, row9, row10, row11, row12, cols]
  exact hit_bits (boxAt b i) (boxAt b l)

/-- The largest of indicators over a nonempty finite type. -/
theorem fold_ind {ι : Type} [Fintype ι] [Nonempty ι] (f : ι → EReal) (p : ι → Prop) (h : ∀ i, f i = ind (p i)) :
    Finset.fold max (Ideal.ofBits FTy.f32 4286578688#32) f Finset.univ = ind (∃ i, p i) := by
  rw [ofBits_neg_inf, funext h, fold_max_ind Finset.univ Finset.univ_nonempty]
  exact ind_congr (by simp)

/-- One earlier row's share in the suppression. -/
theorem sup_step (b d : Rows Ideal) (s : FVec Ideal S128x1 .f32) (i : Fin 128) :
    k0_pay20 k0_pay3 (b 0) (b 1) (b 2) (b 3) (b 4) s (d 0) (d 1) (d 2) (d 3) (d 4) (ix2 i 0)
      = max (s (ix2 i 0)) (ind (∃ l, Hit (boxAt b i) (boxAt d l))) := by
  unfold k0_pay20
  pointwise
  congr 1
  refine fold_ind (ι := Fin 128) _ (fun l => Hit (boxAt b i) (boxAt d l)) fun l => ?_
  simp only [cols]
  exact hit_bits (boxAt b i) (boxAt d l)

/-- The suppression column says which boxes of the row overlap a box of the first `j` kept rows. -/
theorem sup_apply (b : Rows Ideal) (D : ℕ → Rows Ideal) (i : Fin 128) (j : ℕ) :
    supOf b D j (ix2 i 0) = ind (∃ q < j, ∃ l, Hit (boxAt b i) (boxAt (D q) l)) := by
  induction j with
  | zero =>
    rw [ind_false (by simp)]
    unfold supOf k0_pay19
    pointwise
  | succ j ih =>
    unfold supOf
    rw [sup_step b (D j), ih, ind_max]
    refine ind_congr ?_
    constructor
    · rintro (⟨q, hq, h⟩ | h)
      · exact ⟨q, by omega, h⟩
      · exact ⟨j, by omega, h⟩
    · rintro ⟨q, hq, h⟩
      by_cases e : q = j
      · exact Or.inr (e ▸ h)
      · exact Or.inl ⟨q, by omega, h⟩

/-- The lane numbers along a row, and down a column. -/
abbrev laneR : IVec S1x128 32 := iota .tc S1x128 32 [1] iota_S1x128_d1_w32
/-- Lane numbers down a column. -/
abbrev laneC : IVec S128x1 32 := iota .tc S128x1 32 [0] iota_S128x1_d0_w32

/-- A test of equal words as a float. -/
theorem sitofp_cmpi_eq (a b : ℕ) (ha : a < 2 ^ 32) (hb : b < 2 ^ 32) :
    FloatOps.sitofp (F := Ideal) FTy.f32 (BitVec.setWidth 32 (IntOp.cmpi CmpIPredicate.eq (BitVec.ofNat 32 a) (BitVec.ofNat 32 b)))
      = ind (a = b) := by
  refine Eq.trans ?_ (sitofp_ofBool _)
  refine congrArg (fun x => FloatOps.sitofp (F := Ideal) FTy.f32 (BitVec.setWidth 32 (BitVec.ofBool x))) ?_
  show (BitVec.ofNat 32 a == BitVec.ofNat 32 b) = _
  rw [Bool.eq_iff_iff, beq_iff_eq, decide_eq_true_iff]
  constructor
  · intro h
    have := congrArg BitVec.toNat h
    simp only [BitVec.toNat_ofNat] at this
    omega
  · rintro rfl; rfl

/-- The loop's counter at a trip. -/
theorem iv_lane (i : ℕ) : Scf.iv 0#32 1#32 i = BitVec.ofNat 32 i := by
  show 0#32 + BitVec.ofNat 32 i * 1#32 = _
  rw [BitVec.mul_one, BitVec.zero_add]

/-- The row's number as a word. -/
theorem rowWord_eq (k : ℕ) : rowWord k = BitVec.ofNat 32 k := iv_lane k

/-- The mask of one lane. -/
theorem val27 (i : Fin k0_t4_loop.trips) (l : Fin 128) :
    (k0_pay27 laneR i : FVec Ideal S1x128 .f32) (ix2 0 l) = ind (l.val = i.val) := by
  have hi : i.val < 128 := lanes_le ▸ i.isLt
  unfold k0_pay27
  pointwise
  rw [iv_lane]
  exact sitofp_cmpi_eq _ _ (by omega) (by omega)

/-- A small word read signed. -/
theorem toInt_ofNat_small (n : ℕ) (h : n < 2 ^ 31) : (BitVec.ofNat 32 n).toInt = n := by
  rw [BitVec.toInt_eq_toNat_cond, BitVec.toNat_ofNat, Nat.mod_eq_of_lt (by omega), if_pos (by omega)]

/-- The test that a lane is among the boxes, as a float. -/
theorem sitofp_slt (k l : ℕ) (hk : k < 94) (hl : l < 128) :
    FloatOps.sitofp (F := Ideal) FTy.f32 (BitVec.setWidth 32
      (IntOp.cmpi CmpIPredicate.slt (IntOp.addi (Scalar.muli (BitVec.ofNat 32 k) 128#32) (BitVec.ofNat 32 l)) 12000#32))
      = ind (128 * k + l < 12000) := by
  have e : IntOp.addi (Scalar.muli (BitVec.ofNat 32 k) 128#32) (BitVec.ofNat 32 l) = BitVec.ofNat 32 (128 * k + l) := by
    show BitVec.ofNat 32 k * BitVec.ofNat 32 128 + BitVec.ofNat 32 l = _
    apply BitVec.eq_of_toNat_eq
    simp only [BitVec.toNat_add, BitVec.toNat_mul, BitVec.toNat_ofNat]
    omega
  rw [e]
  refine Eq.trans ?_ (sitofp_ofBool _)
  refine congrArg (fun x => FloatOps.sitofp (F := Ideal) FTy.f32 (BitVec.setWidth 32 (BitVec.ofBool x))) ?_
  show (BitVec.ofNat 32 (128 * k + l)).slt (BitVec.ofNat 32 12000) = _
  rw [Bool.eq_iff_iff, BitVec.slt_iff_toInt_lt, decide_eq_true_iff, toInt_ofNat_small _ (by omega), toInt_ofNat_small _ (by omega)]
  omega

/-- One lane's verdict: in range, not suppressed by an earlier row, not suppressed by an earlier lane. -/
theorem val28 (k : ℕ) (hk : k < 94) (s : FVec Ideal S128x1 .f32) (i : Fin k0_t4_loop.trips) (kr v : FVec Ideal S1x128 .f32)
    (S K H : Fin 128 → Prop) (hs : ∀ l, s (ix2 l 0) = ind (S l)) (hK : ∀ l, kr (ix2 0 l) = ind (K l))
    (hH : ∀ l, v (ix2 0 l) = ind (H l)) :
    k0_pay28 laneR laneC (rowWord k) s i kr v
      = ind (128 * k + i.val < 12000 ∧ ¬((∃ l, H l ∧ K l) ∨ S ⟨i.val, lanes_le ▸ i.isLt⟩)) := by
  have hi : i.val < 128 := lanes_le ▸ i.isLt
  unfold k0_pay28
  pointwise
  rw [fold_ind (ι := _ × _) _ (fun x => H x.2 ∧ K x.2) (fun x => by rw [hH, hK, ind_mul]),
    fold_ind (ι := _ × _) _ (fun x => S x.1 ∧ x.1.val = i.val) (fun x => by
      rw [hs, iv_lane, sitofp_cmpi_eq _ _ (by omega) (by omega), ind_mul]),
    fold_ind (ι := _ × _) _ (fun x => 128 * k + x.2.val < 12000 ∧ x.2.val = i.val) (fun x => by
      rw [rowWord_eq, sitofp_slt _ _ hk x.2.isLt, val27, ind_mul])]
  have h1 : (∃ x : Fin 1 × Fin 128, H x.2 ∧ K x.2) ↔ ∃ l, H l ∧ K l :=
    ⟨fun ⟨x, h⟩ => ⟨x.2, h⟩, fun ⟨l, h⟩ => ⟨(0, l), h⟩⟩
  have h2 : (∃ x : Fin 128 × Fin 1, S x.1 ∧ x.1.val = i.val) ↔ S ⟨i.val, hi⟩ := by
    constructor
    · rintro ⟨x, h, e⟩
      rwa [show x.1 = ⟨i.val, hi⟩ from Fin.ext e] at h
    · intro h
      exact ⟨(⟨i.val, hi⟩, 0), h, rfl⟩
  have h3 : (∃ x : Fin 1 × Fin 128, 128 * k + x.2.val < 12000 ∧ x.2.val = i.val) ↔ 128 * k + i.val < 12000 := by
    constructor
    · rintro ⟨x, h, e⟩
      omega
    · intro h
      exact ⟨(0, ⟨i.val, hi⟩), h, rfl⟩
  rw [ind_congr h1, ind_congr h2, ind_congr h3]
  have h4 := ind_add_pos (∃ l, H l ∧ K l) (S ⟨i.val, hi⟩)
  by_cases hc : (∃ l, H l ∧ K l) ∨ S ⟨i.val, hi⟩
  · rw [if_pos (h4.mpr hc), zero_mul, ind_false (fun h => h.2 hc)]
  · rw [if_neg (fun h => hc (h4.mp h)), one_mul]
    exact ind_congr ⟨fun h => ⟨h, hc⟩, fun h => h.1⟩

/-- A 0/1 float turned into a word. -/
theorem fptosi_ind (p : Prop) [Decidable p] : Ideal.fptosi 32 (ind p) = BitVec.ofNat 32 (if p then 1 else 0) := by
  by_cases h : p
  · rw [ind_true h, if_pos h, ← EReal.coe_one, Ideal.fptosi, Ideal.toIntClamped_coe]
    norm_num
  · rw [ind_false h, if_neg h, ← EReal.coe_zero, Ideal.fptosi, Ideal.toIntClamped_coe]
    norm_num

/-- The kept lanes after a trip. -/
theorem val29 (w : BitVec 32) (s : FVec Ideal S128x1 .f32) (i : Fin k0_t4_loop.trips) (kr v : FVec Ideal S1x128 .f32) (l : Fin 128)
    : k0_pay29 laneR laneC w s i kr v (ix2 0 l) = kr (ix2 0 l) + ind (l.val = i.val) * k0_pay28 laneR laneC w s i kr v := by
  unfold k0_pay29
  pointwise
  rw [val27]

/-- The lanes put out after a trip. -/
theorem val30 (w : BitVec 32) (s : FVec Ideal S128x1 .f32) (i : Fin k0_t4_loop.trips) (kr kf v : FVec Ideal S1x128 .f32) (a : BitVec 32) (l : Fin 128)
    : k0_pay30 laneR laneC w s i kr kf a v (ix2 0 l) = kf (ix2 0 l) + ind (l.val = i.val) * (k0_pay28 laneR laneC w s i kr v
      * FloatOps.sitofp (F := Ideal) FTy.f32 (BitVec.setWidth 32 (IntOp.cmpi CmpIPredicate.sle
        (Scalar.addi a (Ideal.fptosi 32 (k0_pay28 laneR laneC w s i kr v))) 2000#32))) := by
  unfold k0_pay30
  pointwise
  rw [val27]
  rfl

end Cert.Proof.PI
end
-- ==== Proof.PI.Sweep.lean ====
module
public import proofs.«01_k».proof.Proof.PI.Lanes
@[expose] public section
set_option maxRecDepth 16384
noncomputable section

/-!
  # The sweep keeps what the greedy rule keeps

  The boxes are numbered in sweep order: box `128 k + l` is lane `l` of row `k`.
-/

namespace Cert.Proof.PI
open Cert.KernelIdeal Cert.KernelIdeal.Gen
open Idealize.ShloMosaic Idealize.ShloMosaic.TcCoe

/-- The rows `b` hold the numbered boxes `B`. -/
def Holds (b : ℕ → Rows Ideal) (B : ℕ → Box) : Prop := ∀ k < 94, ∀ l : Fin 128, B (128 * k + l.val) = boxAt (b k) l

/-- The first `k` kept rows hold the boxes blanked out where they aren't kept. -/
def Kept (D : ℕ → Rows Ideal) (B : ℕ → Box) (k : ℕ) : Prop :=
  ∀ j < k, ∀ l : Fin 128, boxAt (D j) l = fun c => B (128 * j + l.val) c * ind (keep B (128 * j + l.val))

/-- The counter goes up by one at a kept box. -/
theorem step_count (a i : ℕ) (p : Prop) [Decidable p] (h : a + 1 < 2 ^ 31) :
    Scalar.addi (BitVec.ofNat 32 a) (BitVec.ofNat 32 (if p then 1 else 0)) = BitVec.ofNat 32 (a + if p then 1 else 0) := by
  show BitVec.ofNat 32 a + _ = _
  rw [BitVec.ofNat_add]

/-- The test against the cap, as a float. -/
theorem sitofp_sle (n : ℕ) (h : n < 2 ^ 31) :
    FloatOps.sitofp (F := Ideal) FTy.f32 (BitVec.setWidth 32 (IntOp.cmpi CmpIPredicate.sle (BitVec.ofNat 32 n) 2000#32)) = ind (n ≤ 2000) := by
  refine Eq.trans ?_ (sitofp_ofBool _)
  refine congrArg (fun x => FloatOps.sitofp (F := Ideal) FTy.f32 (BitVec.setWidth 32 (BitVec.ofBool x))) ?_
  show (BitVec.ofNat 32 n).sle (BitVec.ofNat 32 2000) = _
  rw [Bool.eq_iff_iff, BitVec.sle_iff_toInt_le, decide_eq_true_iff, toInt_ofNat_small _ h, toInt_ofNat_small _ (by omega)]
  omega

/-- When the cap is reached. -/
theorem full_iff (n : ℕ) (h : n < 2 ^ 31) : Full (BitVec.ofNat 32 n) ↔ 2000 ≤ n := by
  have e : Scalar.cmpi .sge (BitVec.ofNat 32 n) 2000#32 = BitVec.ofBool (decide (2000 ≤ n)) := by
    show BitVec.ofBool ((BitVec.ofNat 32 2000).sle (BitVec.ofNat 32 n)) = _
    congr 1
    rw [Bool.eq_iff_iff, BitVec.sle_iff_toInt_le, decide_eq_true_iff, toInt_ofNat_small _ h, toInt_ofNat_small _ (by omega)]
    omega
  unfold Full
  rw [e]
  by_cases hn : 2000 ≤ n
  · simp only [hn, decide_true, iff_true]; decide
  · simp only [hn, decide_false, iff_false]; decide

section
variable {b : ℕ → Rows Ideal} {B : ℕ → Box} (hB : Holds b B) (hpos : ∀ n < 12032, 0 ≤ B n 0)
include hB hpos

/-- A box is kept when neither an earlier row nor an earlier lane of its row suppresses it. -/
theorem keep_row {D : ℕ → Rows Ideal} {k : ℕ} (hk : k < 94) (hD : Kept D B k) (i : Fin 128) :
    (128 * k + i.val < 12000 ∧ ¬((∃ l : Fin 128, Hit (boxAt (b k) i) (boxAt (b k) l) ∧ (l.val < i.val ∧ keep B (128 * k + l.val)))
        ∨ ∃ q < k, ∃ l, Hit (boxAt (b k) i) (boxAt (D q) l)))
      ↔ keep B (128 * k + i.val) := by
  have hi := i.isLt
  rw [keep_iff B (128 * k + i.val)]
  refine and_congr_right fun hn => ?_
  constructor
  · intro h j hj hkeep hhit
    apply h
    have hl : j % 128 < 128 := Nat.mod_lt _ (by norm_num)
    have ej : 128 * (j / 128) + j % 128 = j := Nat.div_add_mod j 128
    by_cases hq : j / 128 = k
    · left
      refine ⟨⟨j % 128, hl⟩, ?_, ?_, ?_⟩
      · rw [← hB k hk, ← hB k hk]
        simpa only [← hq, ej] using hhit
      · show j % 128 < i.val
        omega
      · show keep B (128 * k + j % 128)
        rwa [← hq, ej]
    · right
      have hq' : j / 128 < k := by omega
      refine ⟨j / 128, hq', ⟨j % 128, hl⟩, ?_⟩
      rw [hD _ hq', hit_masked (by rw [← hB k hk]; exact hpos _ (by omega)), ← hB k hk]
      simpa only [ej] using And.intro hkeep hhit
  · rintro h (⟨l, hhit, hl, hkeep⟩ | ⟨q, hq, l, hhit⟩)
    · rw [← hB k hk, ← hB k hk] at hhit
      exact h _ (by omega) hkeep hhit
    · have hl := l.isLt
      rw [hD q hq, hit_masked (by rw [← hB k hk]; exact hpos _ (by omega)), ← hB k hk] at hhit
      exact h _ (by omega) hhit.1 hhit.2

/-- The sweep of a row, lane by lane. -/
theorem keepOf_apply {D : ℕ → Rows Ideal} {k : ℕ} (hk : k < 94) (hD : Kept D B k) (i : ℕ) (hi : i ≤ 128) :
    (∀ l : Fin 128, (keepOf laneR laneC (rowWord k) (supOf (b k) D k) (overlapOf (b k)) (BitVec.ofNat 32 (kept B (128 * k))) i).1 (ix2 0 l)
        = ind (l.val < i ∧ keep B (128 * k + l.val)))
      ∧ (∀ l : Fin 128, (keepOf laneR laneC (rowWord k) (supOf (b k) D k) (overlapOf (b k)) (BitVec.ofNat 32 (kept B (128 * k))) i).2.1 (ix2 0 l)
        = ind (l.val < i ∧ final B (128 * k + l.val)))
      ∧ (keepOf laneR laneC (rowWord k) (supOf (b k) D k) (overlapOf (b k)) (BitVec.ofNat 32 (kept B (128 * k))) i).2.2
        = BitVec.ofNat 32 (kept B (128 * k + i)) := by
  classical
  induction i with
  | zero =>
    refine ⟨fun l => ?_, fun l => ?_, rfl⟩
    · rw [ind_false (by simp)]
      unfold keepOf k0_pay25
      pointwise
    · rw [ind_false (by simp)]
      unfold keepOf k0_pay26
      pointwise
  | succ i ih =>
    obtain ⟨h1, h2, h3⟩ := ih (by omega)
    have hlt : i < k0_t4_loop.trips := by rw [lanes_le]; omega
    have hv := val28 k hk (supOf (b k) D k) ⟨i, hlt⟩ _ (rowM (overlapOf (b k)) ⟨i, lanes_le ▸ hlt⟩) _ _ _
      (fun l => sup_apply (b k) D l k) h1 (fun l => (hit_square (b k) _ l))
    rw [ind_congr (keep_row hB hpos hk hD ⟨i, by omega⟩)] at hv
    have hle := kept_le B (128 * k + i)
    have hsplit : ∀ (l : Fin 128) (P : ℕ → Prop),
        ind (l.val < i ∧ P (128 * k + l.val)) + ind (l.val = i) * ind (P (128 * k + i)) = ind (l.val < i + 1 ∧ P (128 * k + l.val)) := by
      intro l P
      rw [ind_mul, ind_add (by omega)]
      refine ind_congr ⟨?_, ?_⟩
      · rintro (⟨h, h'⟩ | ⟨h, h'⟩)
        · exact ⟨by omega, h'⟩
        · exact ⟨by omega, h ▸ h'⟩
      · rintro ⟨h, h'⟩
        by_cases e : l.val = i
        · exact Or.inr ⟨e, e ▸ h'⟩
        · exact Or.inl ⟨by omega, h'⟩
    have hc : Scalar.addi (BitVec.ofNat 32 (kept B (128 * k + i))) (Ideal.fptosi 32 (ind (keep B (128 * k + i))))
        = BitVec.ofNat 32 (kept B (128 * k + (i + 1))) := by
      rw [fptosi_ind, step_count _ i _ (by omega), ← Nat.add_assoc, kept_succ]
    unfold keepOf
    rw [dif_pos hlt]
    unfold laneStep
    refine ⟨fun l => ?_, fun l => ?_, ?_⟩
    · show k0_pay29 _ _ _ _ _ _ _ _ = _
      rw [val29, hv, h1]
      exact hsplit l (keep B)
    · show k0_pay30 _ _ _ _ _ _ _ _ _ _ = _
      rw [val30, hv, h2, h3]
      have hle' := kept_le B (128 * k + (i + 1))
      have hs := sitofp_sle (kept B (128 * k + (i + 1))) (by omega)
      rw [hc, hs, ind_mul]
      exact hsplit l (final B)
    · dsimp only
      rw [hv, h3]
      exact hc

/-- What a whole row's sweep leaves. -/
theorem sweep_apply {D : ℕ → Rows Ideal} {k : ℕ} (hk : k < 94) (hD : Kept D B k) :
    (∀ l : Fin 128, (sweep laneR laneC (b k) D k (BitVec.ofNat 32 (kept B (128 * k)))).1 (ix2 0 l) = ind (keep B (128 * k + l.val)))
      ∧ (∀ l : Fin 128, (sweep laneR laneC (b k) D k (BitVec.ofNat 32 (kept B (128 * k)))).2.1 (ix2 0 l) = ind (final B (128 * k + l.val)))
      ∧ (sweep laneR laneC (b k) D k (BitVec.ofNat 32 (kept B (128 * k)))).2.2 = BitVec.ofNat 32 (kept B (128 * (k + 1))) := by
  obtain ⟨h1, h2, h3⟩ := keepOf_apply hB hpos hk hD 128 le_rfl
  exact ⟨fun l => (h1 l).trans (ind_congr (and_iff_right l.isLt)), fun l => (h2 l).trans (ind_congr (and_iff_right l.isLt)), h3⟩
end

/-- The kept rows: a box where the mask is 1, zeros elsewhere. -/
theorem keptRows_apply (b : Rows Ideal) (m : FVec Ideal S1x128 .f32) (l : Fin 128) :
    boxAt (keptRows b m) l = fun c => boxAt b l c * m (ix2 0 l) := by
  funext c
  unfold boxAt keptRows
  fin_cases c
  · show k0_pay31 _ _ _ = _
    unfold k0_pay31; pointwise; rw [row8]
  · show k0_pay33 (F := Ideal) (k0_pay32 (k0_pay9 (b 1)) m) (ix3 0 0 l) = b 1 (ix3 0 0 l) * m (ix2 0 l)
    unfold k0_pay33 k0_pay32; pointwise; rw [row9]
  · show k0_pay34 _ _ _ = _
    unfold k0_pay34; pointwise; rw [row10]
  · show k0_pay35 _ _ _ = _
    unfold k0_pay35; pointwise; rw [row11]
  · show k0_pay36 _ _ _ = _
    unfold k0_pay36; pointwise; rw [row12]

/-- The rows put out: a box where the mask is 1, zeros elsewhere. -/
theorem outRows_apply (b : Rows Ideal) (m : FVec Ideal S1x128 .f32) (l : Fin 128) (c : Fin 4) :
    outRows b m c (ix3 0 0 l) = boxAt b l c.castSucc * m (ix2 0 l) := by
  unfold boxAt outRows
  fin_cases c
  · show k0_pay37 _ _ _ = _
    unfold k0_pay37; pointwise; rw [row8]; rfl
  · show k0_pay38 _ _ _ = _
    unfold k0_pay38; pointwise; rw [row9]; rfl
  · show k0_pay39 _ _ _ = _
    unfold k0_pay39; pointwise; rw [row10]; rfl
  · show k0_pay40 _ _ _ = _
    unfold k0_pay40; pointwise; rw [row11]; rfl

/-- The rows put out once the cap is reached. -/
theorem zeroRows_apply (l : Fin 128) (c : Fin 4) : (zeroRows c : Row Ideal) (ix3 0 0 l) = (0 : EReal) := by
  unfold zeroRows
  fin_cases c
  · show (k0_pay4 (F := Ideal)) (ix3 0 0 l) = _
    unfold k0_pay4; pointwise
  · show (k0_pay5 (F := Ideal)) (ix3 0 0 l) = _
    unfold k0_pay5; pointwise
  · show (k0_pay6 (F := Ideal)) (ix3 0 0 l) = _
    unfold k0_pay6; pointwise
  · show (k0_pay7 (F := Ideal)) (ix3 0 0 l) = _
    unfold k0_pay7; pointwise

section
variable {b : ℕ → Rows Ideal} {B : ℕ → Box} (hB : Holds b B) (hpos : ∀ n < 12032, 0 ≤ B n 0)
include hB hpos

/-- Between rows: either the allowed number is reached, or the count and the kept rows are right. -/
theorem st_inv (k : ℕ) (hk : k ≤ 94) :
    (Full (st laneR laneC b k).1 ∧ 2000 ≤ kept B (128 * k))
      ∨ (¬Full (st laneR laneC b k).1 ∧ (st laneR laneC b k).1 = BitVec.ofNat 32 (kept B (128 * k)) ∧ Kept (st laneR laneC b k).2 B k) := by
  induction k with
  | zero =>
    right
    refine ⟨?_, by rw [Nat.mul_zero, kept_zero]; rfl, fun j hj => absurd hj (Nat.not_lt_zero _)⟩
    rw [show (st laneR laneC b 0).1 = BitVec.ofNat 32 0 from rfl, full_iff _ (by norm_num)]
    norm_num
  | succ k ih =>
    rcases ih (by omega) with ⟨hf, h⟩ | ⟨hf, hc, hD⟩
    · left
      rw [st, if_pos hf]
      exact ⟨hf, h.trans (kept_mono B (by omega))⟩
    · have hle := kept_le B (128 * (k + 1))
      rw [st, if_neg hf, hc]
      obtain ⟨h1, h2, h3⟩ := sweep_apply hB hpos (by omega : k < 94) hD
      rw [h3, full_iff _ (by omega)]
      by_cases hfull : 2000 ≤ kept B (128 * (k + 1))
      · exact Or.inl ⟨hfull, hfull⟩
      · refine Or.inr ⟨hfull, rfl, fun j hj l => ?_⟩
        by_cases e : j = k
        · subst e
          refine (congrArg (fun R : Rows Ideal => boxAt R l) (Function.update_self (β := fun _ : ℕ => Rows Ideal) _ _ _)).trans ?_
          rw [ keptRows_apply, h1, ← hB j (by omega)]
        · refine (congrArg (fun R : Rows Ideal => boxAt R l) (Function.update_of_ne (β := fun _ : ℕ => Rows Ideal) e _ _)).trans ?_
          exact hD j (by omega) l

/-- What the kernel puts out: each box under whether it is among the first kept ones. -/
theorem out_apply (k : ℕ) (hk : k < 94) (l : Fin 128) (c : Fin 4) :
    out laneR laneC b k c (ix3 0 0 l) = B (128 * k + l.val) c.castSucc * ind (final B (128 * k + l.val)) := by
  unfold out
  rcases st_inv hB hpos k (by omega) with ⟨hf, h⟩ | ⟨hf, hc, hD⟩
  · rw [if_pos hf, zeroRows_apply, ind_false (not_final (h.trans (kept_mono B (by omega)))), mul_zero]
  · rw [if_neg hf, hc, outRows_apply, (sweep_apply hB hpos hk hD).2.1, ← hB k hk]
end

end Cert.Proof.PI
end
-- ==== Proof.Decode.lean ====
module
public import proofs.«01_k».proof.Proof.Nms
@[expose] public section
set_option maxRecDepth 16384
noncomputable section

/-!
  # Decoding a box from an anchor and an offset
-/

namespace Cert.Proof
open Idealize.ShloMosaic

/-- Half the scale of an offset's size. -/
def halfSize (o : EReal) : EReal := Ideal.ofBits FTy.f32 0x3F000000#32 * Ideal.exp o

/-- A coordinate: from an anchor's two ends move by `t` times its length, clipped to the picture. -/
def coord (a b t : EReal) : EReal :=
  min (Ideal.ofBits FTy.f32 0x43800000#32) (max 0 (Ideal.div (a + b) (Ideal.ofBits FTy.f32 0x40000000#32) + (b - a) * t))

/-- The box of an anchor `a` and an offset `o`: its four clipped coordinates and its area. -/
def decode (a o : Fin 4 → EReal) : Box :=
  ![coord (a 0) (a 2) (o 0 - halfSize (o 2)), coord (a 1) (a 3) (o 1 - halfSize (o 3)),
    coord (a 0) (a 2) (o 0 + halfSize (o 2)), coord (a 1) (a 3) (o 1 + halfSize (o 3)),
    (coord (a 0) (a 2) (o 0 + halfSize (o 2)) - coord (a 0) (a 2) (o 0 - halfSize (o 2)))
      * (coord (a 1) (a 3) (o 1 + halfSize (o 3)) - coord (a 1) (a 3) (o 1 - halfSize (o 3)))]

/-- The picture's size isn't negative. -/
theorem size_nonneg : 0 ≤ Ideal.ofBits FTy.f32 0x43800000#32 := by
  have h : Ideal.ofBits FTy.f32 0x43800000#32 = ((256 : ℝ) : EReal) := by
    simp [Ideal.ofBits, Ideal.ieee, -EReal.coe_mul]; norm_num
  rw [h]
  exact EReal.coe_nonneg.mpr (by norm_num)

/-- A decoded box's top edge isn't negative. -/
theorem decode_nonneg (a o : Fin 4 → EReal) : 0 ≤ decode a o 0 :=
  le_min size_nonneg (le_max_left _ _)

end Cert.Proof
end
-- ==== Proof.PI.Decode.lean ====
module
public import proofs.«01_k».proof.Proof.PI.Sweep
public import proofs.«01_k».proof.Proof.PI.Frame
public import proofs.«01_k».proof.Proof.Decode
@[expose] public section
set_option maxRecDepth 16384
noncomputable section

namespace Cert.Proof.PI
open Cert.KernelIdeal Cert.KernelIdeal.Gen
open Idealize.ShloMosaic Idealize.ShloMosaic.TcCoe

/-- The kernel's five slabs hold the decoded boxes. -/
theorem boxes_apply (X Y : Vec Ideal S4x94x128 .f32) (ch : Fin 5) (k : Fin 94) (l : Fin 128) :
    boxes X Y (ix3 ch k l) = decode (fun c => X (ix3 c k l)) (fun c => Y (ix3 c k l)) ch := by
  unfold boxes
  show boxSlabs X Y ch (ix3 0 k l) = _
  unfold boxSlabs
  fin_cases ch
  · show k0_pay58 (F := Ideal) _ _ (ix3 0 k l) = _
    unfold_payloads
    pointwise
    rfl
  · show k0_pay59 (F := Ideal) _ _ _ _ (ix3 0 k l) = _
    unfold_payloads
    pointwise
    rfl
  · show k0_pay60 (F := Ideal) _ _ _ _ (ix3 0 k l) = _
    unfold_payloads
    pointwise
    rfl
  · show k0_pay1 (F := Ideal) (k0_pay57 (k0_pay46 (slab X 1) (slab X 3)) (k0_pay48 (slab X 1) (slab X 3)) (k0_pay50 (slab Y 1)) (k0_pay52 (slab Y 3))) (ix3 0 k l) = _
    unfold_payloads
    pointwise
    rfl
  · show k0_pay2 (F := Ideal) _ _ _ _ (ix3 0 k l) = _
    unfold_payloads
    pointwise
    rfl

/-- The boxes of two blocks, numbered in sweep order. -/
def boxOf (X Y : Vec Ideal S4x94x128 .f32) (n : ℕ) : Box :=
  if h : n < 12032 then
    decode (fun c => X (ix3 c ⟨n / 128, by omega⟩ ⟨n % 128, Nat.mod_lt _ (by norm_num)⟩))
      (fun c => Y (ix3 c ⟨n / 128, by omega⟩ ⟨n % 128, Nat.mod_lt _ (by norm_num)⟩))
  else fun _ => 0

/-- The box at a lane of a row. -/
theorem boxOf_lane (X Y : Vec Ideal S4x94x128 .f32) (k : Fin 94) (l : Fin 128) :
    boxOf X Y (128 * k.val + l.val) = decode (fun c => X (ix3 c k l)) (fun c => Y (ix3 c k l)) := by
  unfold boxOf
  have h1 : (⟨(128 * k.val + l.val) / 128, by omega⟩ : Fin 94) = k := Fin.ext (by show (128 * k.val + l.val) / 128 = k.val; omega)
  have h2 : (⟨(128 * k.val + l.val) % 128, Nat.mod_lt _ (by norm_num)⟩ : Fin 128) = l := Fin.ext (by show (128 * k.val + l.val) % 128 = l.val; omega)
  rw [dif_pos (by omega), h1, h2]

/-- The kernel's box rows hold the boxes. -/
theorem boxOf_holds (X Y : Vec Ideal S4x94x128 .f32) : Holds (rowsOf (boxes X Y)) (boxOf X Y) := by
  intro k hk l
  rw [boxOf_lane X Y ⟨k, hk⟩ l]
  funext ch
  unfold boxAt
  rw [← rowsOf_lt (boxes X Y) ⟨k, hk⟩ ch]
  exact (boxes_apply X Y ch ⟨k, hk⟩ l).symm

/-- No box's top edge is negative. -/
theorem boxOf_nonneg (X Y : Vec Ideal S4x94x128 .f32) (n : ℕ) (h : n < 12032) : 0 ≤ boxOf X Y n 0 := by
  unfold boxOf
  rw [dif_pos h]
  exact decode_nonneg _ _

/-- What the kernel puts out at one lane: the box, or zero when it isn't among the first kept ones. -/
theorem nmsOut_apply (X Y : Vec Ideal S4x94x128 .f32) (c : Fin 4) (k : Fin 94) (l : Fin 128) :
    nmsOut X Y (ix3 c k l)
      = boxOf X Y (128 * k.val + l.val) c.castSucc * ind (final (boxOf X Y) (128 * k.val + l.val)) :=
  out_apply (boxOf_holds X Y) (boxOf_nonneg X Y) k.val k.isLt l c

end Cert.Proof.PI
end
-- ==== Proof.HostOps.lean ====
module
public import Idealize.ShloMosaic.Lib.Pointwise
public import Idealize.ShloMosaic.Lib.Routing.OpsSet
public import Idealize.ShloMosaic.Lib.Routing.OpsPair
@[expose] public section
set_option maxRecDepth 16384
noncomputable section

/-!
  # The host's row gather and its placing scatter, read at an element
-/

namespace Cert.Proof
open Idealize.ShloMosaic

/-- The shape of the argument tables. -/
abbrev Table : Shape := ⟨2, ![20000, 4]⟩
/-- The shape of the picked rows, and of the result. -/
abbrev Picked : Shape := ⟨2, ![12000, 4]⟩
/-- The shape of the words that rows are picked by. -/
abbrev Starts : Shape := ⟨2, ![12000, 1]⟩
/-- The shape of the picked rows with zero rows after them. -/
abbrev Padded : Shape := ⟨2, ![12032, 4]⟩

/-- The dimension numbers of a gather of whole rows. -/
abbrev rowDims (wf : GatherDims.WF Table Starts Picked [1] [0] [] [0] [] 1 ![1, 4]) : GatherDims Table Starts Picked where
  offsetDims := [1]
  collapsedSliceDims := [0]
  operandBatchingDims := []
  startIndicesBatchingDims := []
  startIndexMap := [0]
  indexVectorDim := 1
  sliceSizes := ![1, 4]
  wf := wf

/-- The row a start word picks. -/
def srcRow (idx : IVec Starts 32) (n : Fin 12000) : Fin 20000 := ⟨min (idx (ix2 n 0)).toInt.toNat 19999, by omega⟩

/-- A gather of whole rows reads the picked row. -/
theorem gather_apply {α : Type} (wf : GatherDims.WF Table Starts Picked [1] [0] [] [0] [] 1 ![1, 4]) (x : Table.Idx → α) (idx : IVec Starts 32)
    (n : Fin 12000) (c : Fin 4) : Host.gather (rowDims wf) x idx (ix2 n c) = x (ix2 (srcRow idx n) c) := by
  unfold Host.gather
  refine congrArg x (funext fun a => Fin.ext ?_)
  have hs : ∀ h, (rowDims wf).siIdx (ix2 n c) ⟨0, h⟩ = ix2 n 0 := by
    intro h
    funext b
    fin_cases b <;> rfl
  fin_cases a
  · show (rowDims wf).start (ix2 n c) idx 0 + (rowDims wf).batchCoord (ix2 n c) 0 + (rowDims wf).offCoord (ix2 n c) 0 = _
    have e1 : (rowDims wf).batchCoord (ix2 n c) 0 = 0 := rfl
    have e2 : (rowDims wf).offCoord (ix2 n c) 0 = 0 := rfl
    rw [e1, e2]
    unfold GatherDims.start
    rw [dif_pos (show (0 : Fin 2) ∈ (rowDims wf).startIndexMap from List.mem_singleton.mpr rfl)]
    exact congrArg (fun j => min (idx j).toInt.toNat 19999) (hs _)
  · show (rowDims wf).start (ix2 n c) idx 1 + (rowDims wf).batchCoord (ix2 n c) 1 + (rowDims wf).offCoord (ix2 n c) 1 = c.val
    have e0 : (rowDims wf).start (ix2 n c) idx 1 = 0 := rfl
    have e1 : (rowDims wf).batchCoord (ix2 n c) 1 = 0 := rfl
    have e2 : (rowDims wf).offCoord (ix2 n c) 1 = c.val := rfl
    rw [e0, e1, e2]
    omega

/-- The dimension numbers of a scatter that places a block of rows. -/
abbrev placeDims (wf : ScatterDims.WF Padded ⟨1, ![1]⟩ Picked [0, 1] [] [0] 0) : ScatterDims Padded ⟨1, ![1]⟩ Picked where
  updateWindowDims := [0, 1]
  insertedWindowDims := []
  scatterDimsToOperandDims := [0]
  indexVectorDim := 0
  wf := wf

/-- A block of rows placed at row zero is read back at its own rows. -/
theorem place_apply {α : Type} (wf : ScatterDims.WF Padded ⟨1, ![1]⟩ Picked [0, 1] [] [0] 0) (x : Padded.Idx → α) (idx : IVec ⟨1, ![1]⟩ 32)
    (hidx : ∀ j, idx j = 0#32) (u : Picked.Idx → α) (n : Fin 12000) (c : Fin 4) :
    Host.scatter (placeDims wf) (fun _ b => b) x idx u (ix2 ⟨n.val, by omega⟩ c) = u (ix2 n c) := by
  have key : ∀ k : Picked.Idx, (placeDims wf).resultIdx? k idx = some (ix2 ⟨n.val, by omega⟩ c) ↔ k = ix2 n c := by
    intro k
    rw [Routing.resultIdx?_eq_some]
    have s0 : (placeDims wf).start k idx 0 = 0 := by
      unfold ScatterDims.start
      rw [dif_pos (show (0 : Fin 2) ∈ (placeDims wf).scatterDimsToOperandDims from List.mem_singleton.mpr rfl), hidx]
      rfl
    have s1 : (placeDims wf).start k idx 1 = 0 := rfl
    have w0 : (placeDims wf).window k 0 = (k 0).val := rfl
    have w1 : (placeDims wf).window k 1 = (k 1).val := rfl
    constructor
    · intro h
      have h0 := h 0
      have h1 := h 1
      rw [s0, w0] at h0
      rw [s1, w1] at h1
      funext a
      fin_cases a
      · refine Fin.ext ?_
        have : ((k 0).val : Int) = n.val := by simpa using h0
        exact_mod_cast this
      · refine Fin.ext ?_
        have : ((k 1).val : Int) = c.val := by simpa using h1
        exact_mod_cast this
    · rintro rfl a
      fin_cases a
      · show (placeDims wf).start _ idx 0 + ((placeDims wf).window _ 0 : Int) = _
        rw [s0, w0]
        exact zero_add _
      · show (placeDims wf).start _ idx 1 + ((placeDims wf).window _ 1 : Int) = _
        rw [s1, w1]
        exact zero_add _
  exact Routing.scatter_set_hit _ x idx u _ _ (fun k hk => congrArg u ((key k).mp hk)) (ix2 n c) ((key _).mpr rfl)

end Cert.Proof
end
-- ==== Proof.PI.Result.lean ====
module
public import proofs.«01_k».proof.Proof.PI.Decode
public import proofs.«01_k».proof.Proof.HostOps
public import Idealize.ShloMosaic.Lib.Pipeline.ValueKit
public import Idealize.ShloMosaic.Lib.StableHlo.RunRead
public import Idealize.ShloMosaic.Lib.StableHlo.RunClose
@[expose] public section
set_option maxRecDepth 16384
noncomputable section

/-!
  # What the kernel's program leaves in its result
-/

namespace Cert.Proof.PI
open Cert.KernelIdeal Cert.KernelIdeal.Gen
open Idealize.ShloMosaic Idealize.ShloMosaic.TcCoe Idealize.ShloMosaic.Pipeline
open Idealize.ShloMosaic.StableHlo
variable [Cert.KernelIdeal.Facts]
variable (m : (ℓ : Loc nD τ sig) → Buf (Elt Ideal) ℓ)

/-- The first block is the whole array. -/
theorem iblk_0 (c : Dev nD) (t : Fin cfg0.N) : iblk m c 0 t = V m c main_v23 := by
  funext y
  refine congrArg (V m c main_v23) (funext fun a => Fin.ext ?_)
  show ((((cfg0.win 0).rect t).emb y) a).val = _
  exact Window.rect_emb_val_of_index_zero (cfg0.win 0) t a (by fin_cases a <;> rfl) y

/-- The second block is the whole array. -/
theorem iblk_1 (c : Dev nD) (t : Fin cfg0.N) : iblk m c 1 t = V m c main_v25 := by
  funext y
  refine congrArg (V m c main_v25) (funext fun a => Fin.ext ?_)
  show ((((cfg0.win 1).rect t).emb y) a).val = _
  exact Window.rect_emb_val_of_index_zero (cfg0.win 1) t a (by fin_cases a <;> rfl) y

/-- The output array holds what the body computes of the two input arrays. -/
theorem arr_out (c : Dev nD) : (dats m 0 c).arrAt 2 cfg0.N = nmsOut (F := Ideal) (V m c main_v23) (V m c main_v25) := by
  refine (dats m 0 c).arrAt_eq_of_after_last 2 ⟨0, by decide⟩ (by decide +kernel) _ fun j => ?_
  rw [after0_2, iblk_0, iblk_1]
  rfl

/-- The result array read off the kernel's output slabs. -/
theorem unslab_apply (X : Vec Ideal S4x94x128 .f32) (n : Fin 12000) (d : Fin 4) :
    extractStridedSlice S12000x4 ![0, 0] (transpose S12032x4 [1, 0] (shapeCast S4x12032 X shapeCasts_S4x94x128_S4x12032) transposes_S4x12032_S12032x4_1_0)
      slices_S12032x4_S12000x4_0_0 (ix2 n d)
      = X (ix3 d ⟨n.val / 128, by omega⟩ ⟨n.val % 128, Nat.mod_lt _ (by norm_num)⟩) := by
  pointwise

/-- The result array after the host's last lines, read off the body's output. -/
theorem result_apply (c : Dev nD) (n : Fin 12000) (d : Fin 4) :
    Pipeline.afterTail₀ cfgs (dats m) 0 (V0 m) [hostOps1] c main_v29 (ix2 n d)
      = nmsOut (F := Ideal) (V m c main_v23) (V m c main_v25) (ix3 d ⟨n.val / 128, by omega⟩ ⟨n.val % 128, Nat.mod_lt _ (by norm_num)⟩) := by
  refine Eq.trans ?_ (unslab_apply (nmsOut (F := Ideal) (V m c main_v23) (V m c main_v25)) n d)
  rw [← arr_out, ← Pipeline.withArrays_arr spec0 (by decide) c (V0 m c) (fun w => (dats m 0 c).arrAt w (cfgs 0).N) 2]
  unfold Pipeline.afterTail₀
  simp only [hostOps1, List.flatten_cons, List.flatten_nil, List.append_nil]
  generalize Pipeline.withArrays _ c (V0 m c) _ = W
  after_reads_simp
  rfl

/-- A picked row of a table, read where the padded slabs hold it. -/
theorem slab_apply (x : Table.Idx → EReal) (z : Padded.Idx → EReal) (w : IVec S1 32) (hw : ∀ j, w j = 0#32) (I : IVec S12000x1 32)
    (n : Fin 12000) (d : Fin 4) :
    shapeCast S4x94x128 (transpose S4x12032 [1, 0] (Host.scatter scatter_S12032x4_S1_S12000x4_01_n_0_0 (fun _ b => b) z w
        (Host.gather gather_S20000x4_S12000x1_S12000x4_1_0_n_n_0_1_14 x I)) transposes_S12032x4_S4x12032_1_0) shapeCasts_S4x12032_S4x94x128
      (ix3 d ⟨n.val / 128, by omega⟩ ⟨n.val % 128, Nat.mod_lt _ (by norm_num)⟩) = x (ix2 (srcRow I n) d) := by
  rw [← gather_apply gather_S20000x4_S12000x1_S12000x4_1_0_n_n_0_1_14_wf x I n d,
    ← place_apply scatter_S12032x4_S1_S12000x4_01_n_0_0_wf z w hw (Host.gather (rowDims _) x I) n d]
  pointwise
  exact congrArg (fun k => Host.scatter (placeDims scatter_S12032x4_S1_S12000x4_01_n_0_0_wf) (fun _ b => b) z w
    (Host.gather (rowDims gather_S20000x4_S12000x1_S12000x4_1_0_n_n_0_1_14_wf) x I) (ix2 k d)) (Fin.ext (by dsimp only; omega))

/-- The anchors' slabs hold the picked anchor rows. -/
theorem v23_apply (c : Dev nD) (n : Fin 12000) (d : Fin 4) :
    (V m c main_v23 : Vec Ideal S4x94x128 .f32) (ix3 d ⟨n.val / 128, by omega⟩ ⟨n.val % 128, Nat.mod_lt _ (by norm_num)⟩)
      = (m ((c : Thread nD τ).loc main_arg0) : Table.Idx → EReal) (ix2 (srcRow (V m c main_v8) n) d) := by
  unfold V V0
  simp only [hostOps0, List.flatten_cons, List.flatten_nil, List.append_nil]
  after_reads_simp
  refine slab_apply _ _ _ (fun j => ?_) _ n d
  rfl

/-- The offsets' slabs hold the picked offset rows. -/
theorem v25_apply (c : Dev nD) (n : Fin 12000) (d : Fin 4) :
    (V m c main_v25 : Vec Ideal S4x94x128 .f32) (ix3 d ⟨n.val / 128, by omega⟩ ⟨n.val % 128, Nat.mod_lt _ (by norm_num)⟩)
      = (m ((c : Thread nD τ).loc main_arg1) : Table.Idx → EReal) (ix2 (srcRow (V m c main_v8) n) d) := by
  unfold V V0
  simp only [hostOps0, List.flatten_cons, List.flatten_nil, List.append_nil]
  after_reads_simp
  refine slab_apply _ _ _ (fun j => ?_) _ n d
  rfl

end Cert.Proof.PI
end
-- ==== Proof.Answer.lean ====
module
public import proofs.«01_k».proof.Proof.Decode
public import proofs.«01_k».proof.Proof.HostOps
@[expose] public section
set_option maxRecDepth 16384
noncomputable section

/-!
  # The answer both programs give: the picked boxes, decoded and swept
-/

namespace Cert.Proof
open Idealize.ShloMosaic

/-- The n-th picked box: the anchor row and the offset row the n-th start word picks, decoded. -/
def pickedBox (A O : Table.Idx → EReal) (I : IVec Starts 32) (n : ℕ) : Box :=
  if h : n < 12000 then decode (fun d => A (ix2 (srcRow I ⟨n, h⟩) d)) (fun d => O (ix2 (srcRow I ⟨n, h⟩) d)) else fun _ => 0

/-- The n-th picked box, at an index of the picked array. -/
theorem pickedBox_fin (A O : Table.Idx → EReal) (I : IVec Starts 32) (n : Fin 12000) :
    pickedBox A O I n.val = decode (fun d => A (ix2 (srcRow I n) d)) (fun d => O (ix2 (srcRow I n) d)) :=
  dif_pos n.isLt

/-- The result: a picked box where it's among the first kept ones, zero elsewhere. -/
def answer (A O : Table.Idx → EReal) (I : IVec Starts 32) : Picked.Idx → EReal := fun i =>
  pickedBox A O I (i 0).val (Fin.castSucc (i 1)) * ind (final (pickedBox A O I) (i 0).val)

end Cert.Proof
end
-- ==== Proof.PI.Value.lean ====
module
public import proofs.«01_k».proof.Proof.PI.Result
public import proofs.«01_k».proof.Proof.Answer
@[expose] public section
set_option maxRecDepth 16384
noncomputable section

/-!
  # The kernel program's run ends with the answer
-/

namespace Cert.Proof.PI
open Idealize.ShloMosaic Cert.Proof Cert.KernelIdeal Cert.KernelIdeal.Gen Idealize.ShloMosaic.TcCoe Idealize.ShloMosaic.Pipeline
variable [Cert.KernelIdeal.Facts] (m : (ℓ : Loc nD τ sig) → Buf (Elt Ideal) ℓ)

/-- The lanes hold the picked boxes. -/
theorem boxOf_picked (c : Dev nD) (n : ℕ) (hn : n < 12000) :
    boxOf (V m c main_v23) (V m c main_v25) n
      = pickedBox (m ((c : Thread nD τ).loc main_arg0)) (m ((c : Thread nD τ).loc main_arg1)) (V m c main_v8) n := by
  have e := boxOf_lane (V m c main_v23) (V m c main_v25) ⟨n / 128, by omega⟩ ⟨n % 128, Nat.mod_lt _ (by norm_num)⟩
  rw [show 128 * (⟨n / 128, by omega⟩ : Fin 94).val + (⟨n % 128, Nat.mod_lt _ (by norm_num)⟩ : Fin 128).val = n from Nat.div_add_mod n 128] at e
  rw [e, pickedBox_fin _ _ _ ⟨n, hn⟩]
  exact congrArg₂ decode (funext fun d => v23_apply m c ⟨n, hn⟩ d) (funext fun d => v25_apply m c ⟨n, hn⟩ d)

/-- The result array after the host's last lines is the answer. -/
theorem result_eq (c : Dev nD) :
    Pipeline.afterTail₀ cfgs (dats m) 0 (V0 m) [hostOps1] c main_v29
      = answer (m ((c : Thread nD τ).loc main_arg0)) (m ((c : Thread nD τ).loc main_arg1)) (V m c main_v8) := by
  funext i
  obtain ⟨n, d, rfl⟩ : ∃ (n : Fin 12000) (d : Fin 4), i = ix2 n d := ⟨i 0, i 1, (ix2_eta i).symm⟩
  rw [result_apply, nmsOut_apply]
  rw [show 128 * (⟨n.val / 128, by omega⟩ : Fin 94).val + (⟨n.val % 128, Nat.mod_lt _ (by norm_num)⟩ : Fin 128).val = n.val from Nat.div_add_mod n.val 128]
  rw [boxOf_picked m c n.val n.isLt]
  exact congrArg (fun p : Prop => pickedBox _ _ _ n.val d.castSucc * ind p) (propext (final_congr (boxOf_picked m c) n.val))

/-- Every run ends with the answer in the result array and the arguments as they were. -/
theorem value_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
        = answer (m ((c : Thread nD τ).loc main_arg0)) (m ((c : Thread nD τ).loc main_arg1)) (V m c main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h.1 c).2 main_v29 (Pipeline.mem_restRefs_of main_v29 (by decide) (by decide))).trans (result_eq m c)),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c))⟩)
    (run_main m ρ)

end Cert.Proof.PI
end
-- ==== Proof.RI.Start.lean ====
module
public import proofs.«01_k».proof.Proof.RI.Frame
public import proofs.«01_k».proof.Proof.Answer
public import Idealize.ShloMosaic.Lib.Pipeline.ValueKit
public import Idealize.ShloMosaic.Lib.StableHlo.RunRead
public import Idealize.ShloMosaic.Lib.StableHlo.RunClose
@[expose] public section
set_option maxRecDepth 16384
noncomputable section

/-!
  # What the reference's loop starts from
-/

namespace Cert.Proof.RI
open Cert.Proof Cert.ReferenceIdeal Cert.ReferenceIdeal.Gen Cert.ReferenceIdeal.Value
open Idealize.ShloMosaic Idealize.ShloMosaic.TcCoe Idealize.ShloMosaic.StableHlo
variable [Cert.ReferenceIdeal.Facts] (V : Valuation τ sig (Elt Ideal))

/-- The anchor table. -/
abbrev anchors : Table.Idx → EReal := V (Proc.devRef .tc main_arg0)
/-- The offset table. -/
abbrev offsets : Table.Idx → EReal := V (Proc.devRef .tc main_arg1)

/-- The clip's lower end is zero. -/
theorem clip_zero (x : EReal) : min (Ideal.ofBits FTy.f32 0x43800000#32) (max (Ideal.ofBits FTy.f32 0#32) x)
    = min (Ideal.ofBits FTy.f32 0x43800000#32) (max 0 x) := by
  rw [Ideal.ofBits_zero_f32]

/-- The four decoded coordinates of every row. -/
theorem corners_apply (r : Fin 20000) :
    (afterL preI V (Proc.devRef .tc main_v41) : Vec Ideal S20000 .f32) (ix1 r)
        = coord (anchors V (ix2 r 0)) (anchors V (ix2 r 2)) (offsets V (ix2 r 0) - halfSize (offsets V (ix2 r 2)))
      ∧ (afterL preI V (Proc.devRef .tc main_v45) : Vec Ideal S20000 .f32) (ix1 r)
        = coord (anchors V (ix2 r 1)) (anchors V (ix2 r 3)) (offsets V (ix2 r 1) - halfSize (offsets V (ix2 r 3)))
      ∧ (afterL preI V (Proc.devRef .tc main_v49) : Vec Ideal S20000 .f32) (ix1 r)
        = coord (anchors V (ix2 r 0)) (anchors V (ix2 r 2)) (offsets V (ix2 r 0) + halfSize (offsets V (ix2 r 2)))
      ∧ (afterL preI V (Proc.devRef .tc main_v53) : Vec Ideal S20000 .f32) (ix1 r)
        = coord (anchors V (ix2 r 1)) (anchors V (ix2 r 3)) (offsets V (ix2 r 1) + halfSize (offsets V (ix2 r 3))) := by
  rw [afterL_eq_after_flatten]
  simp only [List.flatten_cons, List.flatten_nil, List.append_nil]
  refine ⟨?_, ?_, ?_, ?_⟩
  all_goals
    after_reads_simp
    simp only [TRef.toBuf, TRef.ofBuf, cast_eq]
    pointwise
    exact clip_zero _

/-- The start words the picked rows are read at. -/
abbrev starts : IVec Starts 32 := afterL preI V (Proc.devRef .tc main_v66)

/-- The picked rows are gathered from the decoded table. -/
theorem v67_eq (W : Valuation τ sig (Elt Ideal)) : after hostOps0_8 W (Proc.devRef .tc main_v67)
    = Host.gather (rowDims gather_S20000x4_S12000x1_S12000x4_1_0_n_n_0_1_14_wf) (after hostOps0_8 W (Proc.devRef .tc main_v58) : Table.Idx → EReal)
        (after hostOps0_8 W (Proc.devRef .tc main_v66) : IVec Starts 32) := by
  simp only [hostOps0_8]
  after_reads_simp
  rfl

/-- The decoded table has the four clipped coordinates as its columns. -/
theorem v58_apply (W : Valuation τ sig (Elt Ideal)) (r : Fin 20000) (d : Fin 4) : (after hostOps0_8 W (Proc.devRef .tc main_v58) : Table.Idx → EReal) (ix2 r d)
    = (![(W (Proc.devRef .tc main_v41) : Vec Ideal S20000 .f32) (ix1 r), (W (Proc.devRef .tc main_v45) : Vec Ideal S20000 .f32) (ix1 r),
      (W (Proc.devRef .tc main_v49) : Vec Ideal S20000 .f32) (ix1 r), (W (Proc.devRef .tc main_v53) : Vec Ideal S20000 .f32) (ix1 r)] : Fin 4 → EReal) d := by
  simp only [hostOps0_8]
  after_results_simp
  show concatenate S20000x4 1 [⟨S20000x1, HloOp.result _ _ (Proc.devRef .tc main_v54)⟩, ⟨S20000x1, HloOp.result _ _ (Proc.devRef .tc main_v55)⟩,
    ⟨S20000x1, HloOp.result _ _ (Proc.devRef .tc main_v56)⟩, ⟨S20000x1, HloOp.result _ _ (Proc.devRef .tc main_v57)⟩] _ (ix2 r d) = _
  after_results_simp
  pointwise
  fin_cases d <;> rfl

/-- The buffers before the last stretch ahead of the loop. -/
abbrev early : Valuation τ sig (Elt Ideal) := afterL [hostOps0, hostOps0_1, hostOps0_2, hostOps0_3, hostOps0_4, hostOps0_5, hostOps0_6, hostOps0_7] V

/-- The last stretch ahead of the loop, split off. -/
theorem preI_eq : afterL preI V = after hostOps0_8 (early V) := rfl

/-- The last stretch keeps what it doesn't write. -/
theorem early_of {b : Ref sig .tc} (h : b ∉ hostOps0_8_W) : early V (Proc.devRef .tc b) = afterL preI V (Proc.devRef .tc b) :=
  (after_of_writes_sub _ _ hostOps0_8_writes h).symm

/-- The picked rows are the picked boxes' corners. -/
theorem v67_apply (n : Fin 12000) (d : Fin 4) :
    (afterL preI V (Proc.devRef .tc main_v67) : Vec Ideal S12000x4 .f32) (ix2 n d)
      = pickedBox (anchors V) (offsets V) (starts V) n.val d.castSucc := by
  rw [pickedBox_fin, preI_eq, v67_eq, gather_apply, v58_apply, early_of V (by decide), early_of V (by decide), early_of V (by decide), early_of V (by decide),
    (corners_apply V _).1, (corners_apply V _).2.1, (corners_apply V _).2.2.1, (corners_apply V _).2.2.2]
  fin_cases d <;> rfl

/-- The area of a row of corners. -/
def rowArea (G : Picked.Idx → EReal) (n : Fin 12000) : EReal := (G (ix2 n 2) - G (ix2 n 0)) * (G (ix2 n 3) - G (ix2 n 1))

/-- The areas are computed from the picked rows. -/
theorem v78_eq (W : Valuation τ sig (Elt Ideal)) (n : Fin 12000) : (after hostOps0_8 W (Proc.devRef .tc main_v78) : Vec Ideal S12000 .f32) (ix1 n)
    = rowArea (after hostOps0_8 W (Proc.devRef .tc main_v67)) n := by
  simp only [hostOps0_8]
  after_reads_simp
  generalize Host.gather _ _ _ = G
  unfold rowArea
  pointwise

/-- The areas are the picked boxes' areas. -/
theorem v78_apply (n : Fin 12000) : (afterL preI V (Proc.devRef .tc main_v78) : Vec Ideal S12000 .f32) (ix1 n)
    = pickedBox (anchors V) (offsets V) (starts V) n.val 4 := by
  rw [preI_eq, v78_eq, ← preI_eq, rowArea, v67_apply, v67_apply, v67_apply, v67_apply, pickedBox_fin]
  rfl

/-- The loop starts with the picked boxes. -/
theorem start_0 : afterL preI V (Proc.devRef .tc main_v81_0) = afterL preI V (Proc.devRef .tc main_v67) := by
  rw [preI_eq]; simp only [hostOps0_8]; after_reads_simp; rfl

/-- The loop starts with their areas. -/
theorem start_1 : afterL preI V (Proc.devRef .tc main_v81_1) = afterL preI V (Proc.devRef .tc main_v78) := by
  rw [preI_eq]; simp only [hostOps0_8]; after_reads_simp; rfl

/-- The loop starts with the positions. -/
theorem start_2 : afterL preI V (Proc.devRef .tc main_v81_2) = iotaInDim S12000 32 0 := by
  rw [preI_eq]; simp only [hostOps0_8]; after_reads_simp; rfl

/-- The loop starts at round zero. -/
theorem start_4 : afterL preI V (Proc.devRef .tc main_v81_4) = constantI S_ 32 0#32 := by
  rw [preI_eq]; simp only [hostOps0_8]; after_reads_simp; rfl

/-- The loop starts with an empty mask. -/
theorem start_5 : afterL preI V (Proc.devRef .tc main_v81_5) = broadcastInDim S12000 ![] bcast_S_S12000 (constantI S_ 1 0#1) := by
  rw [preI_eq]; simp only [hostOps0_8]; after_reads_simp; rfl

end Cert.Proof.RI
end
-- ==== Proof.RI.Step.lean ====
module
public import proofs.«01_k».proof.Proof.RI.Start
public import Idealize.ShloMosaic.Lib.DynamicIndex
public import Idealize.ShloMosaic.Lib.WordCmp
@[expose] public section
set_option maxRecDepth 16384
noncomputable section

/-!
  # One round of the reference's loop
-/

namespace Cert.Proof.RI
open Cert.Proof Cert.ReferenceIdeal Cert.ReferenceIdeal.Gen Cert.ReferenceIdeal.Value
open Idealize.ShloMosaic Idealize.ShloMosaic.TcCoe Idealize.ShloMosaic.StableHlo
variable [Cert.ReferenceIdeal.Facts]

/-- When `and` of two bits is 1. -/
theorem andi_one (a b : BitVec 1) : IntOp.andi a b = 1#1 ↔ a = 1#1 ∧ b = 1#1 := by revert a b; decide
/-- When `or` of two bits is 1. -/
theorem ori_one (a b : BitVec 1) : IntOp.ori a b = 1#1 ↔ a = 1#1 ∨ b = 1#1 := by revert a b; decide

/-- When a fold by `or` is 1. -/
theorem foldl_ori {ι : Type} (f : ι → BitVec 1) : ∀ (l : List ι) (b : BitVec 1),
    l.foldl (fun r n => IntOp.ori r (f n)) b = 1#1 ↔ b = 1#1 ∨ ∃ n ∈ l, f n = 1#1
  | [], b => by simp
  | a :: l, b => by
    rw [List.foldl_cons, foldl_ori f l, ori_one, or_assoc]
    simp

/-- When a fold by `and` is 1. -/
theorem foldl_andi {ι : Type} (f : ι → BitVec 1) : ∀ (l : List ι) (b : BitVec 1),
    l.foldl (fun r n => IntOp.andi r (f n)) b = 1#1 ↔ b = 1#1 ∧ ∀ n ∈ l, f n = 1#1
  | [], b => by simp
  | a :: l, b => by
    rw [List.foldl_cons, foldl_andi f l, andi_one, and_assoc]
    simp

/-- The indices a reduction meets. -/
theorem mem_fiber {s t : Shape} {axes : List (Fin s.rank)} (h : s.ReducesTo axes t) (j : t.Idx) (i : s.Idx) :
    i ∈ (((List.finRange s.numel).map s.rowMajor.symm).filter fun i => h.drop i = j) ↔ h.drop i = j := by
  rw [List.mem_filter, decide_eq_true_iff]
  exact and_iff_right (List.mem_map.2 ⟨s.rowMajor i, List.mem_finRange _, Equiv.symm_apply_apply _ _⟩)

/-- A reduce by `or` from 0 holds a 1 exactly where one of the words it meets is 1. -/
theorem reduce_or {s t u : Shape} {axes : List (Fin s.rank)} (x : s.Idx → BitVec 1) (b : u.Idx → BitVec 1) (hb : ∀ i, b i = 0#1)
    (h : s.ReducesTo axes t) (hu : 0 < u.numel) (j : t.Idx) :
    Host.reduce IntOp.ori x b h hu j = 1#1 ↔ ∃ i, h.drop i = j ∧ x i = 1#1 := by
  rw [Host.reduce_eq_foldl, foldl_ori, hb]
  simp only [mem_fiber]
  simp

/-- A reduce by `and` from 1 holds a 1 exactly where all the words it meets are 1. -/
theorem reduce_and {s t u : Shape} {axes : List (Fin s.rank)} (x : s.Idx → BitVec 1) (b : u.Idx → BitVec 1) (hb : ∀ i, b i = 1#1)
    (h : s.ReducesTo axes t) (hu : 0 < u.numel) (j : t.Idx) :
    Host.reduce IntOp.andi x b h hu j = 1#1 ↔ ∀ i, h.drop i = j → x i = 1#1 := by
  rw [Host.reduce_eq_foldl, foldl_andi, hb]
  simp only [mem_fiber]
  simp

/-- What the loop carries besides the mask: the boxes, their areas, the positions and the round's number. -/
structure Carries (V : Valuation τ sig (Elt Ideal)) (B : ℕ → Box) (k : ℕ) : Prop where
  boxes : ∀ (n : Fin 12000) (d : Fin 4), (V (Proc.devRef .tc main_v81_0) : Picked.Idx → EReal) (ix2 n d) = B n.val d.castSucc
  areas : ∀ n : Fin 12000, (V (Proc.devRef .tc main_v81_1) : Vec Ideal S12000 .f32) (ix1 n) = B n.val 4
  places : V (Proc.devRef .tc main_v81_2) = iotaInDim S12000 32 0
  round : V (Proc.devRef .tc main_v81_4) = constantI S_ 32 (BitVec.ofNat 32 k)

variable {V : Valuation τ sig (Elt Ideal)} {B : ℕ → Box} {k : ℕ}

/-- The round's own box. -/
theorem row_apply (h : Carries V B k) (hk : k < 12000) (d : Fin 4) :
    (res_main_while0b_v100 V : Vec Ideal S4 .f32) (ix1 d) = B k d.castSucc := by
  unfold res_main_while0b_v100 res_main_while0b_v92
  rw [h.round]
  rw [Host.dynamicSlice_eq_extractStridedSlice S1x4 _ _ ![k, 0] _ (by refine ⟨rfl, fun a => ?_⟩; fin_cases a <;> simp <;> omega) (by
    intro a
    fin_cases a
    · exact toInt_wrap_ofNat k (by omega)
    · rfl)]
  pointwise
  exact h.boxes ⟨k, hk⟩ d

/-- The upper left corner of the intersection. -/
theorem lo_apply (h : Carries V B k) (hk : k < 12000) (n : Fin 12000) (d : Fin 2) :
    (res_main_while0b_v105 V : Vec Ideal S12000x2 .f32) (ix2 n d) = max (B k ⟨d.val, by omega⟩) (B n.val ⟨d.val, by omega⟩) := by
  have e1 := row_apply h hk ⟨d.val, by omega⟩
  have e2 := h.boxes n ⟨d.val, by omega⟩
  unfold res_main_while0b_v105
  pointwise
  exact congrArg₂ (max : EReal → EReal → EReal) e1 e2

/-- The lower right corner of the intersection. -/
theorem hi_apply (h : Carries V B k) (hk : k < 12000) (n : Fin 12000) (d : Fin 2) :
    (res_main_while0b_v110 V : Vec Ideal S12000x2 .f32) (ix2 n d) = min (B k ⟨2 + d.val, by omega⟩) (B n.val ⟨2 + d.val, by omega⟩) := by
  have e1 := row_apply h hk ⟨2 + d.val, by omega⟩
  have e2 := h.boxes n ⟨2 + d.val, by omega⟩
  unfold res_main_while0b_v110
  pointwise
  exact congrArg₂ (min : EReal → EReal → EReal) e1 e2

/-- When a comparison's bit is 1. -/
theorem olt_one (x y : EReal) : (BitVec.ofBool (decide (x < y)) : BitVec 1) = 1#1 ↔ x < y := by
  by_cases h : x < y <;> simp [h]

/-- The reference's test that two boxes meet. -/
theorem meet_apply (h : Carries V B k) (hk : k < 12000) (n : Fin 12000) (b : Vec Ideal S12000 .i1)
    (hb : Host.reduce IntOp.andi (cmpf .olt (res_main_while0b_v105 V) (res_main_while0b_v110 V)) (constantI S_ 1 1#1) reducesTo_S12000x2_S12000_d1 h_S_ = b) :
    b (ix1 n) = 1#1 ↔ max (B k 0) (B n.val 0) < min (B k 2) (B n.val 2) ∧ max (B k 1) (B n.val 1) < min (B k 3) (B n.val 3) := by
  have hat : ∀ d : Fin 2, cmpf .olt (res_main_while0b_v105 V) (res_main_while0b_v110 V) (ix2 n d) = 1#1
      ↔ max (B k ⟨d.val, by omega⟩) (B n.val ⟨d.val, by omega⟩) < min (B k ⟨2 + d.val, by omega⟩) (B n.val ⟨2 + d.val, by omega⟩) := by
    intro d
    rw [← lo_apply h hk n d, ← hi_apply h hk n d]
    exact olt_one _ _
  rw [← hb]
  refine (reduce_and _ (constantI S_ 1 1#1) (fun _ => rfl) _ _ _).trans ⟨?_, ?_⟩
  · intro hx
    exact ⟨(hat 0).mp (hx (ix2 n 0) (by funext a; fin_cases a; rfl)), (hat 1).mp (hx (ix2 n 1) (by funext a; fin_cases a; rfl))⟩
  · rintro ⟨h0, h1⟩ i hi
    obtain ⟨r, d, rfl⟩ : ∃ (r : Fin 12000) (d : Fin 2), i = ix2 r d := ⟨i 0, i 1, (ix2_eta i).symm⟩
    obtain rfl : r = n := congrFun hi 0
    refine (hat d).mpr ?_
    fin_cases d
    · exact h0
    · exact h1

/-- A select by a bit. -/
theorem select_one {α : Type} (b : BitVec 1) (p : Prop) [Decidable p] (h : b = 1#1 ↔ p) (x y : α) : Scalar.select b x y = if p then x else y := by
  by_cases hp : p
  · rw [if_pos hp, h.mpr hp]; rfl
  · have hb : b = 0#1 := (by decide : ∀ b : BitVec 1, b ≠ 1#1 → b = 0#1) b fun e => hp (h.mp e)
    rw [if_neg hp, hb]; rfl

/-- The overlap with each box. -/
theorem cap_apply (h : Carries V B k) (hk : k < 12000) (n : Fin 12000) :
    (res_main_while0b_v124 V : Vec Ideal S12000 .f32) (ix1 n) = cap (B k) (B n.val) := by
  classical
  unfold res_main_while0b_v124
  generalize hb : Host.reduce IntOp.andi (cmpf .olt (res_main_while0b_v105 V) (res_main_while0b_v110 V)) (constantI S_ 1 1#1) reducesTo_S12000x2_S12000_d1 h_S_ = b
  pointwise
  rw [select_one _ _ (meet_apply h hk n b hb), lo_apply h hk, lo_apply h hk, hi_apply h hk, hi_apply h hk]
  unfold cap
  refine ite_congr rfl (fun _ => rfl) fun _ => ?_
  exact Ideal.ofBits_zero_f32

/-- The round's own area. -/
theorem area_apply (h : Carries V B k) (hk : k < 12000) :
    (shapeCast S_ (Host.dynamicSlice S1 (V (Proc.devRef .tc main_v81_1)) (fun k => (((![select (cmpi .slt (V (Proc.devRef .tc main_v81_4)) (constantI S_ 32 0#32)) (addi (id (V (Proc.devRef .tc main_v81_4))) (constantI S_ 32 12000#32)) (V (Proc.devRef .tc main_v81_4))] : Fin 1 → (⟨S_, .i32⟩ : BufTy).Contents (Elt Ideal))) k (Shape.Idx.first h_S_)).toInt) sliceFits_S12000_S1) shapeCasts_S1_S_ : Vec Ideal S_ .f32) ix0
      = B k 4 := by
  rw [h.round]
  rw [Host.dynamicSlice_eq_extractStridedSlice S1 _ _ ![k] _ (by refine ⟨rfl, fun a => ?_⟩; fin_cases a; simp; omega) (by
    intro a
    fin_cases a
    exact toInt_wrap_ofNat k (by omega))]
  pointwise
  exact h.areas ⟨k, hk⟩

/-- What the round writes at its own place, before it's negated: 1 where an earlier kept box hits this one. -/
theorem hit_apply (h : Carries V B k) (hk : k < 12000) (n : Fin 12000) (z : Vec Ideal S_ .f32) (hz : z ix0 = B k 4) :
    (cmpf .oge (Host.divf (res_main_while0b_v124 V) (subf (addf (broadcastInDim S12000 ![] bcast_S_S12000 z) (V (Proc.devRef .tc main_v81_1))) (res_main_while0b_v124 V))) (broadcastInDim S12000 ![] bcast_S_S12000 (constant S_ .f32 0x3F333333#32)) : Vec Ideal S12000 .i1) (ix1 n) = 1#1
      ↔ Hit (B k) (B n.val) := by
  have e1 := cap_apply h hk n
  have e2 := h.areas n
  pointwise
  rw [e1, e2, hz]
  unfold Hit thr
  by_cases hp : Ideal.ofBits FTy.f32 0x3F333333#32 ≤ Ideal.div (cap (B k) (B n.val)) (B k 4 + B n.val 4 - cap (B k) (B n.val)) <;> simp [hp]

/-- The place a round writes at is its own. -/
theorem place_iff (h : Carries V B k) (hk : k < 12000) (n : Fin 12000) (j : S_.Idx) :
    scatter_S12000_S1_S__n_0_0_0.resultIdx? j (broadcastInDim S1 ![] bcast_S_S1 (id (select (cmpi .slt (V (Proc.devRef .tc main_v81_4)) (constantI S_ 32 0#32)) (addi (V (Proc.devRef .tc main_v81_4)) (constantI S_ 32 12000#32)) (V (Proc.devRef .tc main_v81_4)))) : IVec S1 32) = some (ix1 n)
      ↔ n.val = k := by
  rw [h.round]
  refine (Routing.resultIdx?_ix1 (N := 12000) scatter_S12000_S1_S__n_0_0_0 j _ n).trans ?_
  have w0 : scatter_S12000_S1_S__n_0_0_0.window j 0 = 0 := rfl
  rw [w0]
  unfold ScatterDims.start
  rw [dif_pos (show (0 : Fin 1) ∈ scatter_S12000_S1_S__n_0_0_0.scatterDimsToOperandDims from List.mem_singleton.mpr rfl)]
  have e : ∀ i : S1.Idx, ((broadcastInDim S1 ![] bcast_S_S1 (id (select (cmpi .slt (constantI S_ 32 (BitVec.ofNat 32 k)) (constantI S_ 32 0#32)) (addi (constantI S_ 32 (BitVec.ofNat 32 k)) (constantI S_ 32 12000#32)) (constantI S_ 32 (BitVec.ofNat 32 k)))) : IVec S1 32) i).toInt = (k : Int) := by
    intro i
    unfold broadcastInDim
    exact toInt_wrap_ofNat k (by omega)
  rw [e]
  constructor <;> intro hh <;> omega

/-- A round leaves the mask's other places as they are. -/
theorem step_miss (h : Carries V B k) (hk : k < 12000) (n : Fin 12000) (hn : n.val ≠ k) :
    (step_main_v81_5 V : Vec Ideal S12000 .i1) (ix1 n) = (V (Proc.devRef .tc main_v81_5) : Vec Ideal S12000 .i1) (ix1 n) := by
  unfold step_main_v81_5
  exact Routing.scatter_set_miss _ _ _ _ _ fun j hj => hn ((place_iff h hk n j).mp hj)

/-- When a negated bit is 1. -/
theorem noti_one (b : BitVec 1) : ~~~b = 1#1 ↔ ¬b = 1#1 := by revert b; decide

/-- The positions before the round's own. -/
theorem before_apply (h : Carries V B k) (hk : k < 12000) (n : Fin 12000) :
    (cmpi .slt (V (Proc.devRef .tc main_v81_2)) (broadcastInDim S12000 ![] bcast_S_S12000 (id (V (Proc.devRef .tc main_v81_4)))) : IVec S12000 1) (ix1 n) = 1#1 ↔ n.val < k := by
  rw [h.round, h.places]
  show BitVec.ofBool ((BitVec.ofNat 32 n.val).slt (BitVec.ofNat 32 k)) = 1#1 ↔ n.val < k
  have e : (BitVec.ofNat 32 n.val).slt (BitVec.ofNat 32 k) = decide (n.val < k) := by
    rw [Bool.eq_iff_iff, BitVec.slt_iff_toInt_lt, decide_eq_true_iff, toInt_ofNat_of_lt (by omega), toInt_ofNat_of_lt (by omega)]
    omega
  rw [e]
  by_cases hp : n.val < k <;> simp [hp]

/-- The mask at the round's own place: 1 where the box is kept. -/
theorem step_hit (h : Carries V B k) (hk : k < 12000)
    (hm : ∀ n : Fin 12000, (V (Proc.devRef .tc main_v81_5) : Vec Ideal S12000 .i1) (ix1 n) = 1#1 ↔ n.val < k ∧ keep B n.val) :
    (step_main_v81_5 V : Vec Ideal S12000 .i1) (ix1 ⟨k, hk⟩) = 1#1 ↔ keep B k := by
  unfold step_main_v81_5
  rw [id_eq, Routing.scatter_set_hit scatter_S12000_S1_S__n_0_0_0 _ _ _ (ix1 ⟨k, hk⟩) _ (fun j _ => congrArg _ (show j = ix0 from funext fun a => a.elim0)) ix0 ((place_iff h hk ⟨k, hk⟩ ix0).mpr rfl)]
  refine (noti_one _).trans ?_
  rw [keep_iff, and_iff_right hk, reduce_or _ (constantI S_ 1 0#1) (fun _ => rfl)]
  simp only [not_exists, not_and]
  have hz := area_apply h hk
  have key : ∀ n : Fin 12000, _ ↔ (n.val < k ∧ keep B n.val) ∧ n.val < k := fun n => (andi_one _ _).trans (and_congr (hm n) (before_apply h hk n))
  constructor
  · intro hx j hj hkeep hhit
    refine hx (ix1 ⟨j, by omega⟩) (funext fun a => a.elim0) ((andi_one _ _).mpr ⟨(key ⟨j, by omega⟩).mpr ⟨⟨hj, hkeep⟩, hj⟩, (hit_apply h hk ⟨j, by omega⟩ _ hz).mpr hhit⟩)
  · intro hx i _ hi
    obtain ⟨n, rfl⟩ : ∃ n : Fin 12000, i = ix1 n := ⟨i 0, (ix1_eta i).symm⟩
    obtain ⟨h1, h2⟩ := (andi_one _ _).mp hi
    have h3 := (key n).mp h1
    exact hx n.val h3.2 h3.1.2 ((hit_apply h hk n _ hz).mp h2)

/-- One round carries on. -/
theorem step_carries (h : Carries V B k) : Carries (STEP V) B (k + 1) where
  boxes n d := by rw [STEP_main_v81_0]; exact h.boxes n d
  areas n := by rw [STEP_main_v81_1]; exact h.areas n
  places := by rw [STEP_main_v81_2]; exact h.places
  round := by
    rw [STEP_main_v81_4]
    unfold step_main_v81_4
    rw [h.round]
    funext i
    show BitVec.ofNat 32 k + 1#32 = BitVec.ofNat 32 (k + 1)
    exact (BitVec.ofNat_add k 1).symm

/-- The mask after `k` rounds: 1 at the kept boxes among the first `k`. -/
theorem step_mask (h : Carries V B k) (hk : k < 12000)
    (hm : ∀ n : Fin 12000, (V (Proc.devRef .tc main_v81_5) : Vec Ideal S12000 .i1) (ix1 n) = 1#1 ↔ n.val < k ∧ keep B n.val) (n : Fin 12000) :
    (STEP V (Proc.devRef .tc main_v81_5) : Vec Ideal S12000 .i1) (ix1 n) = 1#1 ↔ n.val < k + 1 ∧ keep B n.val := by
  rw [STEP_main_v81_5]
  by_cases hn : n.val = k
  · subst hn
    exact (step_hit h hk hm).trans (and_iff_right (Nat.lt_succ_self _)).symm
  · rw [step_miss h hk n hn, hm n]
    exact and_congr_left fun _ => by omega

/-- Every round carries on from the start. -/
theorem rounds (h : Carries V B 0) (hm : ∀ n : Fin 12000, (V (Proc.devRef .tc main_v81_5) : Vec Ideal S12000 .i1) (ix1 n) = 0#1) (k : ℕ) (hk : k ≤ 12000) :
    Carries (STEP^[k] V) B k
      ∧ ∀ n : Fin 12000, (STEP^[k] V (Proc.devRef .tc main_v81_5) : Vec Ideal S12000 .i1) (ix1 n) = 1#1 ↔ n.val < k ∧ keep B n.val := by
  induction k with
  | zero => exact ⟨h, fun n => by rw [Function.iterate_zero, id_eq, hm n]; exact iff_of_false (show ¬((0#1 : BitVec 1) = 1#1) by decide) fun hh => absurd hh.1 (Nat.not_lt_zero _)⟩
  | succ k ih =>
    obtain ⟨h1, h2⟩ := ih (by omega)
    rw [Function.iterate_succ_apply']
    exact ⟨step_carries h1, step_mask h1 (by omega) h2⟩

end Cert.Proof.RI
end
-- ==== Proof.RI.Value.lean ====
module
public import proofs.«01_k».proof.Proof.RI.Step
public import Idealize.ShloMosaic.Lib.Routing.Ops
@[expose] public section
set_option maxRecDepth 16384
noncomputable section

/-!
  # The reference's run ends with the answer
-/

namespace Cert.Proof.RI
open Cert.Proof Cert.ReferenceIdeal Cert.ReferenceIdeal.Gen Cert.ReferenceIdeal.Value
open Idealize.ShloMosaic Idealize.ShloMosaic.TcCoe Idealize.ShloMosaic.StableHlo
open Idealize.SL.Sem
variable [Cert.ReferenceIdeal.Facts]

open Classical in
/-- The running sum of the kept boxes is their count. -/
theorem sum_kept (B : ℕ → Box) (n : ℕ) : ((List.range n).map fun i => if keep B i then 1 else 0).sum = kept B n := by
  induction n with
  | zero => exact (kept_zero B).symm
  | succ n ih => rw [List.range_succ, List.map_append, List.sum_append, ih, kept_succ]; simp

/-- A mask bit turned into a float. -/
theorem uitofp_one (b : BitVec 1) (p : Prop) (h : b = 1#1 ↔ p) : (FloatOps.uitofp (F := Ideal) FTy.f32 b : EReal) = ind p := by
  by_cases hp : p
  · rw [ind_true hp, h.mpr hp]
    show (((1#1 : BitVec 1).toNat : ℝ) : EReal) = 1
    norm_num
  · have hb : b = 0#1 := (by decide : ∀ b : BitVec 1, b ≠ 1#1 → b = 0#1) b fun e => hp (h.mp e)
    rw [ind_false hp, hb]
    show (((0#1 : BitVec 1).toNat : ℝ) : EReal) = 0
    norm_num

/-- The test of the running sum against the cap. -/
theorem sle_one (a : ℕ) (ha : a ≤ 12000) : IntOp.cmpi .sle (BitVec.ofNat 32 a) 2000#32 = 1#1 ↔ a ≤ 2000 := by
  show BitVec.ofBool ((BitVec.ofNat 32 a).sle (BitVec.ofNat 32 2000)) = 1#1 ↔ a ≤ 2000
  have e : (BitVec.ofNat 32 a).sle (BitVec.ofNat 32 2000) = decide (a ≤ 2000) := by
    rw [Bool.eq_iff_iff, BitVec.sle_iff_toInt_le, decide_eq_true_iff, toInt_ofNat_of_lt (by omega), toInt_ofNat_of_lt (by omega)]
    omega
  rw [e]
  by_cases hp : a ≤ 2000 <;> simp [hp]

/-- A mask bit widened to a word counts 1 where it's set. -/
theorem widen_one (b : BitVec 1) (p : Prop) [Decidable p] (h : b = 1#1 ↔ p) : BitVec.setWidth 32 b = BitVec.ofNat 32 (if p then 1 else 0) := by
  by_cases hp : p
  · rw [if_pos hp, h.mpr hp]; rfl
  · rw [if_neg hp, (by decide : ∀ b : BitVec 1, b ≠ 1#1 → b = 0#1) b fun e => hp (h.mp e)]; rfl

/-- What the lines after the loop make of the mask. -/
theorem post_apply (W : Valuation τ sig (Elt Ideal)) (B : ℕ → Box) (G : Picked.Idx → EReal) (hG : W (Proc.devRef .tc main_v67) = G)
    (hm : ∀ n : Fin 12000, (W (Proc.devRef .tc main_v81_5) : Vec Ideal S12000 .i1) (ix1 n) = 1#1 ↔ keep B n.val) (n : Fin 12000) (d : Fin 4) :
    (afterL postI W (Proc.devRef .tc main_v90) : Picked.Idx → EReal) (ix2 n d)
      = G (ix2 n d) * ind (final B n.val) := by
  rw [afterL_eq_after_flatten]
  simp only [List.flatten_cons, List.flatten_nil, List.append_nil]
  after_reads_simp
  simp only [TRef.toBuf, TRef.ofBuf, cast_eq]
  generalize hR : Host.reduceWindow _ _ _ _ _ _ _ _ _ = R
  pointwise
  have hRn : R (ix1 n) = BitVec.ofNat 32 (kept B (n.val + 1)) := by
    classical
    rw [← hR, ← sum_kept]
    exact Routing.cumsum1 (N := 12000) (Nm1 := 11999) rfl _ (fun i => if keep B i then 1 else 0) (fun i => widen_one _ _ (hm i)) _ rfl _ _ n
  rw [hG, hRn]
  refine congrArg (G (ix2 n d) * ·) (uitofp_one _ _ ?_)
  exact (andi_one _ _).trans (and_congr (hm n) (sle_one _ (by have := kept_le B (n.val + 1); have := n.isLt; omega)))

variable (m : (ℓ : Loc nD τ sig) → Buf (Elt Ideal) ℓ) (ρ : Dev nD → PrngReg)

/-- The boxes the run picks. -/
abbrev picked (c : Dev nD) : ℕ → Box := pickedBox (anchors (launchContents m c)) (offsets (launchContents m c)) (starts (launchContents m c))

/-- The loop starts from the picked boxes. -/
theorem start_carries (c : Dev nD) : Carries (entryContents preI m c) (picked m c) 0 where
  boxes n d := (congrFun (start_0 _) (ix2 n d)).trans (v67_apply _ n d)
  areas n := (congrFun (start_1 _) (ix1 n)).trans (v78_apply _ n)
  places := start_2 _
  round := start_4 _

/-- The mask the loop leaves. -/
theorem loop_mask (c : Dev nD) (n : Fin 12000) :
    (after condOps (atTrip condOps bodyI (entryContents preI m) 12000 c) (Proc.devRef .tc main_v81_5) : Vec Ideal S12000 .i1) (ix1 n) = 1#1
      ↔ keep (picked m c) n.val := by
  have h1 := cond_keeps (atK m 12000 c) main_v81_5 (by decide)
  have h2 := atK_agree m c 12000 main_v81_5 (by decide)
  rw [h1, h2]
  exact ((rounds (start_carries m c) (fun n => congrFun (start_5 _) (ix1 n)) 12000 le_rfl).2 n).trans (and_iff_right n.isLt)

/-- The result array holds the answer. -/
theorem final_eq (c : Dev nD) : finalContents condOps preI bodyI postI 12000 m c (Proc.devRef .tc main_v90)
    = answer (m ((c.tc : Thread nD τ).loc main_arg0)) (m ((c.tc : Thread nD τ).loc main_arg1)) (starts (launchContents m c)) := by
  funext i
  obtain ⟨n, d, rfl⟩ : ∃ (n : Fin 12000) (d : Fin 4), i = ix2 n d := ⟨i 0, i 1, (ix2_eta i).symm⟩
  have h67 : after condOps (atTrip condOps bodyI (entryContents preI m) 12000 c) (Proc.devRef .tc main_v67) = afterL preI (launchContents m c) (Proc.devRef .tc main_v67) := by
    rw [cond_keeps_of (by decide), loop_keeps (by decide) (by decide)]
  refine (post_apply _ (picked m c) _ h67 (loop_mask m c) n d).trans ?_
  rw [v67_apply]
  rfl

/-- Every run of the reference ends with the answer in the result array and the arguments as they were. -/
theorem value_run : θ_run (defs (F := Ideal)) (onTc (τ := τ) (main (F := Ideal))) ⟨m, fun _ => 0, ρ⟩ (fun r => ∀ c : Dev nD,
      r.2.mem ((c.tc : Thread nD τ).loc main_v90)
        = answer (m ((c.tc : Thread nD τ).loc main_arg0)) (m ((c.tc : Thread nD τ).loc main_arg1)) (starts (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_v90 rfl).trans (final_eq m c),
      (h c main_arg0 rfl).trans (arg_kept m (by decide) (by decide) (by decide) c),
      (h c main_arg1 rfl).trans (arg_kept m (by decide) (by decide) (by decide) c),
      (h c main_arg2 rfl).trans (arg_kept m (by decide) (by decide) (by decide) c)⟩)
    (run_fold m ρ)

end Cert.Proof.RI
end
-- ==== Proof.Equal.lean ====
module
public import proofs.«01_k».proof.Proof.PI.Value
public import proofs.«01_k».proof.Proof.RI.Value
public import proofs.«01_k».proof.Defs
@[expose] public section
set_option maxRecDepth 16384
noncomputable section

/-!
  # The two programs give the same answer
-/

namespace Cert.Proof
open Idealize.ShloMosaic Idealize.ShloMosaic.TcCoe Idealize.ShloMosaic.StableHlo
open Idealize.SL.Sem
variable [Cert.KernelIdeal.Facts] [Cert.ReferenceIdeal.Facts]

/-- Both programs pick the rows by the same words. -/
theorem starts_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (RI.starts (launchContents m' c) : IVec Starts 32) = (Cert.KernelIdeal.Gen.V m c Cert.KernelIdeal.main_v8 : IVec Starts 32) := by
  have e := RI.early_of (launchContents m' c) (b := Cert.ReferenceIdeal.main_arg2) (by decide)
  rw [RI.early_keeps (by decide)] at e
  unfold RI.starts
  rw [RI.preI_eq]
  generalize RI.early (launchContents m' c) = W at e
  unfold Cert.KernelIdeal.Gen.V Cert.KernelIdeal.Gen.V0
  simp only [Cert.ReferenceIdeal.Gen.hostOps0_8, Cert.KernelIdeal.Gen.hostOps0, List.flatten_cons, List.flatten_nil, List.append_nil]
  after_reads_simp
  rw [e.trans h]
  rfl

/-- From equal arguments both programs run, end with equal results, and leave the arguments as they were. -/
theorem algebraic : algebraic_KernelIdeal_ReferenceIdeal := by
  intro m g m' g' _ hargs
  refine ⟨fun c => answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (Cert.KernelIdeal.Gen.V m c Cert.KernelIdeal.main_v8),
    PI.value_run m g, ?_⟩
  refine (θ_run (Cert.ReferenceIdeal.defs (F := Ideal)) _ _).mono (fun r h c => ?_) (RI.value_run m' g')
  obtain ⟨h0, h1, h2⟩ := hargs c
  refine ⟨(h c).1.trans ?_, (h c).2⟩
  exact congr (congrArg₂ answer h0 h1) (starts_eq m m' c h2)

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.P.Frame
public import proofs.«01_k».proof.Proof.PI.Frame
public import proofs.«01_k».proof.Proof.RI.Frame
public import proofs.«01_k».proof.Proof.Equal

@[expose] public section

noncomputable section

namespace Cert.Proof

/-- Everything the certificate claims. -/
theorem claim : Cert.Claim :=
  ⟨Cert.Kernel.Gen.facts, Cert.KernelIdeal.Gen.facts, Cert.ReferenceIdeal.Gen.facts,
    fun m g _ => @P.frame_run _ _ m g Cert.Kernel.Gen.facts Cert.KernelIdeal.Gen.facts,
    fun m g _ => PI.frame_run m g,
    fun m g _ => RI.frame_run m g,
    trivial,
    @algebraic Cert.KernelIdeal.Gen.facts Cert.ReferenceIdeal.Gen.facts⟩

end Cert.Proof

end
